-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeRefIdeal (m : (ℓ : Loc Cert.MoeRefIdeal.nD Cert.MoeRefIdeal.τ Cert.MoeRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7)
      ∧ r.2.mem ((c.tc : Thread Cert.MoeRefIdeal.nD Cert.MoeRefIdeal.τ).loc Cert.MoeRefIdeal.main_arg8) = m ((c.tc : Thread Cert.MoeRefIdeal.nD Cert.MoeRefIdeal.τ).loc Cert.MoeRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)
      ∧ m' ((c.tc : Thread Cert.MoeRefIdeal.nD Cert.MoeRefIdeal.τ).loc Cert.MoeRefIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v10)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v10) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v47) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7)
          ∧ r.2.mem ((c.tc : Thread Cert.MoeRefIdeal.nD Cert.MoeRefIdeal.τ).loc Cert.MoeRefIdeal.main_arg8) = m' ((c.tc : Thread Cert.MoeRefIdeal.nD Cert.MoeRefIdeal.τ).loc Cert.MoeRefIdeal.main_arg8))

def preserves_Attn_AttnIdeal : Prop :=
  True

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v9)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v18_0)) (v1 : (c : Dev Cert.InprojIdeal.nD) → Buf (Elt Ideal) ((c.tc : Thread Cert.InprojIdeal.nD Cert.InprojIdeal.τ).loc Cert.InprojIdeal.main_v18_1)) (v2 : (c : Dev Cert.InprojIdeal.nD) → Buf (Elt Ideal) ((c.tc : Thread Cert.InprojIdeal.nD Cert.InprojIdeal.τ).loc Cert.InprojIdeal.main_v18_2)) (v3 : (c : Dev Cert.InprojIdeal.nD) → Buf (Elt Ideal) ((c.tc : Thread Cert.InprojIdeal.nD Cert.InprojIdeal.τ).loc Cert.InprojIdeal.main_v18_3)) (v4 : (c : Dev Cert.InprojIdeal.nD) → Buf (Elt Ideal) ((c.tc : Thread Cert.InprojIdeal.nD Cert.InprojIdeal.τ).loc Cert.InprojIdeal.main_v18_4)) (v5 : (c : Dev Cert.InprojIdeal.nD) → Buf (Elt Ideal) ((c.tc : Thread Cert.InprojIdeal.nD Cert.InprojIdeal.τ).loc Cert.InprojIdeal.main_v18_5)) (v6 : (c : Dev Cert.InprojIdeal.nD) → Buf (Elt Ideal) ((c.tc : Thread Cert.InprojIdeal.nD Cert.InprojIdeal.τ).loc Cert.InprojIdeal.main_v18_6)) (v7 : (c : Dev Cert.InprojIdeal.nD) → Buf (Elt Ideal) ((c.tc : Thread Cert.InprojIdeal.nD Cert.InprojIdeal.τ).loc Cert.InprojIdeal.main_v18_7)) (v8 : (c : Dev Cert.InprojIdeal.nD) → Buf (Elt Ideal) ((c.tc : Thread Cert.InprojIdeal.nD Cert.InprojIdeal.τ).loc Cert.InprojIdeal.main_v18_8)) (v9 : (c : Dev Cert.InprojIdeal.nD) → Buf (Elt Ideal) ((c.tc : Thread Cert.InprojIdeal.nD Cert.InprojIdeal.τ).loc Cert.InprojIdeal.main_v18_9)) (v10 : (c : Dev Cert.InprojIdeal.nD) → Buf (Elt Ideal) ((c.tc : Thread Cert.InprojIdeal.nD Cert.InprojIdeal.τ).loc Cert.InprojIdeal.main_v18_10)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v18_0) = v0 c
          ∧ r.2.mem ((c.tc : Thread Cert.InprojIdeal.nD Cert.InprojIdeal.τ).loc Cert.InprojIdeal.main_v18_1) = v1 c
          ∧ r.2.mem ((c.tc : Thread Cert.InprojIdeal.nD Cert.InprojIdeal.τ).loc Cert.InprojIdeal.main_v18_2) = v2 c
          ∧ r.2.mem ((c.tc : Thread Cert.InprojIdeal.nD Cert.InprojIdeal.τ).loc Cert.InprojIdeal.main_v18_3) = v3 c
          ∧ r.2.mem ((c.tc : Thread Cert.InprojIdeal.nD Cert.InprojIdeal.τ).loc Cert.InprojIdeal.main_v18_4) = v4 c
          ∧ r.2.mem ((c.tc : Thread Cert.InprojIdeal.nD Cert.InprojIdeal.τ).loc Cert.InprojIdeal.main_v18_5) = v5 c
          ∧ r.2.mem ((c.tc : Thread Cert.InprojIdeal.nD Cert.InprojIdeal.τ).loc Cert.InprojIdeal.main_v18_6) = v6 c
          ∧ r.2.mem ((c.tc : Thread Cert.InprojIdeal.nD Cert.InprojIdeal.τ).loc Cert.InprojIdeal.main_v18_7) = v7 c
          ∧ r.2.mem ((c.tc : Thread Cert.InprojIdeal.nD Cert.InprojIdeal.τ).loc Cert.InprojIdeal.main_v18_8) = v8 c
          ∧ r.2.mem ((c.tc : Thread Cert.InprojIdeal.nD Cert.InprojIdeal.τ).loc Cert.InprojIdeal.main_v18_9) = v9 c
          ∧ r.2.mem ((c.tc : Thread Cert.InprojIdeal.nD Cert.InprojIdeal.τ).loc Cert.InprojIdeal.main_v18_10) = v10 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v12) = v0 c
          ∧ r.2.mem ((c.tc : Thread Cert.InprojRefIdeal.nD Cert.InprojRefIdeal.τ).loc Cert.InprojRefIdeal.main_v13) = v1 c
          ∧ r.2.mem ((c.tc : Thread Cert.InprojRefIdeal.nD Cert.InprojRefIdeal.τ).loc Cert.InprojRefIdeal.main_v38) = v2 c
          ∧ r.2.mem ((c.tc : Thread Cert.InprojRefIdeal.nD Cert.InprojRefIdeal.τ).loc Cert.InprojRefIdeal.main_v15) = v3 c
          ∧ r.2.mem ((c.tc : Thread Cert.InprojRefIdeal.nD Cert.InprojRefIdeal.τ).loc Cert.InprojRefIdeal.main_v16) = v4 c
          ∧ r.2.mem ((c.tc : Thread Cert.InprojRefIdeal.nD Cert.InprojRefIdeal.τ).loc Cert.InprojRefIdeal.main_v39) = v5 c
          ∧ r.2.mem ((c.tc : Thread Cert.InprojRefIdeal.nD Cert.InprojRefIdeal.τ).loc Cert.InprojRefIdeal.main_v40) = v6 c
          ∧ r.2.mem ((c.tc : Thread Cert.InprojRefIdeal.nD Cert.InprojRefIdeal.τ).loc Cert.InprojRefIdeal.main_v18) = v7 c
          ∧ r.2.mem ((c.tc : Thread Cert.InprojRefIdeal.nD Cert.InprojRefIdeal.τ).loc Cert.InprojRefIdeal.main_v19) = v8 c
          ∧ r.2.mem ((c.tc : Thread Cert.InprojRefIdeal.nD Cert.InprojRefIdeal.τ).loc Cert.InprojRefIdeal.main_v24) = v9 c
          ∧ r.2.mem ((c.tc : Thread Cert.InprojRefIdeal.nD Cert.InprojRefIdeal.τ).loc Cert.InprojRefIdeal.main_v35) = v10 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v19_0)) (v1 : (c : Dev Cert.MergeIdeal.nD) → Buf (Elt Ideal) ((c.tc : Thread Cert.MergeIdeal.nD Cert.MergeIdeal.τ).loc Cert.MergeIdeal.main_v19_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v19_0) = v0 c
          ∧ r.2.mem ((c.tc : Thread Cert.MergeIdeal.nD Cert.MergeIdeal.τ).loc Cert.MergeIdeal.main_v19_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v65) = v0 c
          ∧ r.2.mem ((c.tc : Thread Cert.MergeRefIdeal.nD Cert.MergeRefIdeal.τ).loc Cert.MergeRefIdeal.main_v67) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def Claim : Prop :=
  ∃ (hMoe : Cert.Moe.Facts) (hMoeIdeal : Cert.MoeIdeal.Facts) (hMoeRefIdeal : Cert.MoeRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPre_finite_logits : Cert.Pre_finite_logits.Facts),
    quiescent_Moe (hMoe := hMoe)
    ∧ quiescent_MoeIdeal (hMoeIdeal := hMoeIdeal)
    ∧ quiescent_MoeRefIdeal (hMoeRefIdeal := hMoeRefIdeal)
    ∧ quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ preserves_Moe_MoeIdeal
    ∧ algebraic_MoeIdeal_MoeRefIdeal (hMoeIdeal := hMoeIdeal) (hMoeRefIdeal := hMoeRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
-- ==== Pre_finite_logits.lean ====
abbrev S16384x1024 : Shape := ⟨2, ![16384, 1024]⟩
abbrev S16384x8 : Shape := ⟨2, ![16384, 8]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x8 : S_.BroadcastsInDim S16384x8 (![] : Fin 0 → Fin S16384x8.rank)
  reducesTo_S16384x8_S_d0_1 : S16384x8.ReducesTo [0, 1] S_

variable [Facts]

def fn {F : FTy → Type} [FloatOps F] (main_arg0 : FVec F S16384x1024 .f32) (main_arg1 : FVec F S16384x1024 .f32) (main_arg2 : FVec F S16384x1024 .f32) (main_arg3 : FVec F S16384x8 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x8 .f32 := Host.absf main_arg3
  let main_cst_2 : FVec F S_ .f32 := constant S_ .f32 0x7F800000#32
  let main_v10 : FVec F S16384x8 .f32 := broadcastInDim S16384x8 ![] bcast_S_S16384x8 main_cst_2
  let main_v11 : IVec S16384x8 1 := cmpf .olt main_v9 main_v10
  let main_c_3 : IVec S_ 1 := constantI S_ 1 1#1
  let main_v12 : IVec S_ 1 := (fun x v => Host.reduce IntOp.andi x v reducesTo_S16384x8_S_d0_1 h_S_) main_v11 main_c_3
  let main_v13 : IVec S_ 1 := andi main_v8 main_v12
  main_v13
-- ==== Moe.lean ====
abbrev S16384x1024 : Shape := ⟨2, ![16384, 1024]⟩
abbrev S16384x128 : Shape := ⟨2, ![16384, 128]⟩
abbrev S2x1x6144 : Shape := ⟨3, ![2, 1, 6144]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S32x1024x256 : Shape := ⟨3, ![32, 1024, 256]⟩
abbrev S32x256x1024 : Shape := ⟨3, ![32, 256, 1024]⟩
abbrev S1024 : Shape := ⟨1, ![1024]⟩
abbrev S512x1024 : Shape := ⟨2, ![512, 1024]⟩
abbrev S512x128 : Shape := ⟨2, ![512, 128]⟩
abbrev S1x1024x256 : Shape := ⟨3, ![1, 1024, 256]⟩
abbrev S1x256x1024 : Shape := ⟨3, ![1, 256, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S2x1x6144, .f32⟩
  | .hbm, ⟨4, _⟩ => ⟨S1x32x1024x256, .f32⟩
  | .hbm, ⟨5, _⟩ => ⟨S1x32x1024x256, .f32⟩
  | .hbm, ⟨6, _⟩ => ⟨S1x32x256x1024, .f32⟩
  | .hbm, ⟨7, _⟩ => ⟨S1x1024, .f32⟩
  | .hbm, ⟨8, _⟩ => ⟨S1x1024, .f32⟩
  | .hbm, ⟨9, _⟩ => ⟨S32x1024x256, .f32⟩
  | .hbm, ⟨10, _⟩ => ⟨S32x1024x256, .bf16⟩
  | .hbm, ⟨11, _⟩ => ⟨S32x1024x256, .f32⟩
  | .hbm, ⟨12, _⟩ => ⟨S32x1024x256, .bf16⟩
  | .hbm, ⟨13, _⟩ => ⟨S32x256x1024, .f32⟩
  | .hbm, ⟨14, _⟩ => ⟨S32x256x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .f32⟩
  | .local _ .vmem, ⟨11, _⟩ => ⟨S512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 32], ![false, false]⟩

def k0_cond2 (i : grid0.Coords) : BitVec 1 :=
  let arg1 : BitVec 32 := BitVec.ofNat 32 (i 1).val
  let c31_i32 : BitVec 32 := 31#32
  let v32 : BitVec 1 := Scalar.cmpi .eq arg1 c31_i32
  let v33 : BitVec 32 := Scalar.extui v32
  let c0_i32_21 : BitVec 32 := 0#32
  let v34 : BitVec 1 := Scalar.cmpi .ne v33 c0_i32_21
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MoeRefIdeal.lean ====
abbrev S16384x1024 : Shape := ⟨2, ![16384, 1024]⟩
abbrev S16384x128 : Shape := ⟨2, ![16384, 128]⟩
abbrev S2x1x6144 : Shape := ⟨3, ![2, 1, 6144]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S16384x32 : Shape := ⟨2, ![16384, 32]⟩
abbrev S32x1024x256 : Shape := ⟨3, ![32, 1024, 256]⟩
abbrev S16384x32x256 : Shape := ⟨3, ![16384, 32, 256]⟩
abbrev S_ : Shape := ⟨0, ![]⟩
abbrev S16384x32x1 : Shape := ⟨3, ![16384, 32, 1]⟩
abbrev S32x256x1024 : Shape := ⟨3, ![32, 256, 1024]⟩
abbrev S2x8192x1024 : Shape := ⟨3, ![2, 8192, 1024]⟩
abbrev S2x1x1024 : Shape := ⟨3, ![2, 1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .f32⟩
  | .hbm, ⟨2, _⟩ => ⟨S16384x1024, .f32⟩
  | .hbm, ⟨3, _⟩ => ⟨S2x1x6144, .f32⟩
  | .hbm, ⟨4, _⟩ => ⟨S1x32x1024x256, .f32⟩
  | .hbm, ⟨5, _⟩ => ⟨S1x32x1024x256, .f32⟩
  | .hbm, ⟨6, _⟩ => ⟨S1x32x256x1024, .f32⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x32, .f32⟩
  | .hbm, ⟨11, _⟩ => ⟨S32x1024x256, .f32⟩
  | .hbm, ⟨12, _⟩ => ⟨S16384x32x256, .f32⟩
  | .hbm, ⟨13, _⟩ => ⟨S16384x32x256, .f32⟩
  | .hbm, ⟨14, _⟩ => ⟨S16384x32x256, .f32⟩
  | .hbm, ⟨15, _⟩ => ⟨S_, .f32⟩
  | .hbm, ⟨16, _⟩ => ⟨S16384x32x256, .f32⟩
  | .hbm, ⟨17, _⟩ => ⟨S16384x32x256, .f32⟩
  | .hbm, ⟨18, _⟩ => ⟨S_, .f32⟩
  | .hbm, ⟨19, _⟩ => ⟨S16384x32x256, .f32⟩
  | .hbm, ⟨20, _⟩ => ⟨S16384x32x256, .f32⟩
  | .hbm, ⟨21, _⟩ => ⟨S16384x32x256, .f32⟩
  | .hbm, ⟨22, _⟩ => ⟨S32x1024x256, .f32⟩
  | .hbm, ⟨23, _⟩ => ⟨S16384x32x256, .f32⟩
  | .hbm, ⟨24, _⟩ => ⟨S16384x32x256, .f32⟩
  | .hbm, ⟨25, _⟩ => ⟨S16384x32x1, .f32⟩
  | .hbm, ⟨26, _⟩ => ⟨S16384x32x256, .f32⟩
  | .hbm, ⟨27, _⟩ => ⟨S16384x32x256, .f32⟩
  | .hbm, ⟨28, _⟩ => ⟨S32x256x1024, .f32⟩
  | .hbm, ⟨29, _⟩ => ⟨S16384x1024, .f32⟩
  | .hbm, ⟨30, _⟩ => ⟨S2x8192x1024, .f32⟩
  | .hbm, ⟨31, _⟩ => ⟨S2x1x1024, .f32⟩
  | .hbm, ⟨32, _⟩ => ⟨S2x8192x1024, .f32⟩
  | .hbm, ⟨33, _⟩ => ⟨S_, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S1024, .f32⟩
  | .hbm, ⟨40, _⟩ => ⟨S1024, .f32⟩
  | .hbm, ⟨41, _⟩ => ⟨S_, .f32⟩
  | .hbm, ⟨42, _⟩ => ⟨S2x8192, .f32⟩
  | .hbm, ⟨43, _⟩ => ⟨S2x8192x1, .f32⟩
  | .hbm, ⟨44, _⟩ => ⟨S_, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S_, .f32⟩
  | .hbm, ⟨51, _⟩ => ⟨S2x8192, .f32⟩
  | .hbm, ⟨52, _⟩ => ⟨S2x8192x1, .f32⟩
  | .hbm, ⟨53, _⟩ => ⟨S_, .f32⟩
  | .hbm, ⟨54, _⟩ => ⟨S2x8192x1, .f32⟩
  | .hbm, ⟨55, _⟩ => ⟨S2x8192x1, .f32⟩
  | .hbm, ⟨56, _⟩ => ⟨S2x8192x1024, .f32⟩
  | .hbm, ⟨57, _⟩ => ⟨S2x8192x1024, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1, .f32⟩
  | .hbm, ⟨62, _⟩ => ⟨S2x8192x1024, .f32⟩
  | .hbm, ⟨63, _⟩ => ⟨S2x8192x1024, .f32⟩
  | .hbm, ⟨64, _⟩ => ⟨S1x1x1024, .f32⟩
  | .hbm, ⟨65, _⟩ => ⟨S2x8192x1024, .f32⟩
  | .hbm, ⟨66, _⟩ => ⟨S2x8192x1024, .f32⟩
  | .hbm, ⟨67, _⟩ => ⟨S1x1x1024, .f32⟩
  | .hbm, ⟨68, _⟩ => ⟨S2x8192x1024, .f32⟩
  | .hbm, ⟨69, _⟩ => ⟨S2x8192x1024, .f32⟩
  | .hbm, ⟨70, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Attn.lean ====
abbrev S16384x1024 : Shape := ⟨2, ![16384, 1024]⟩
abbrev S16384x8 : Shape := ⟨2, ![16384, 8]⟩
abbrev S136 : Shape := ⟨1, ![136]⟩
abbrev S_ : Shape := ⟨0, ![]⟩
abbrev S2x8192x8 : Shape := ⟨3, ![2, 8192, 8]⟩
abbrev S2x8x8192 : Shape := ⟨3, ![2, 8, 8192]⟩
abbrev S2x8x8192x1 : Shape := ⟨4, ![2, 8, 8192, 1]⟩
abbrev S2x8x1x8192 : Shape := ⟨4, ![2, 8, 1, 8192]⟩
abbrev S512x128 : Shape := ⟨2, ![512, 128]⟩
abbrev S1 : Shape := ⟨1, ![1]⟩
abbrev S1x1x512x1 : Shape := ⟨4, ![1, 1, 512, 1]⟩
abbrev S1x1x1x512 : Shape := ⟨4, ![1, 1, 1, 512]⟩
abbrev S512x1 : Shape := ⟨2, ![512, 1]⟩
abbrev S512x512 : Shape := ⟨2, ![512, 512]⟩
abbrev S1x512 : Shape := ⟨2, ![1, 512]⟩
abbrev S512 : Shape := ⟨1, ![512]⟩

abbrev nBuf : Space → Nat
  | .hbm => 15
  | .vmem => 15
  | .smem => 2
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S2x8192x8, .f32⟩
  | .hbm, ⟨11, _⟩ => ⟨S2x8x8192, .f32⟩
  | .hbm, ⟨12, _⟩ => ⟨S2x8x8192x1, .f32⟩
  | .hbm, ⟨13, _⟩ => ⟨S2x8x1x8192, .f32⟩
  | .hbm, ⟨14, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x512x1, .f32⟩
  | .local _ .vmem, ⟨7, _⟩ => ⟨S1x1x512x1, .f32⟩
  | .local _ .vmem, ⟨8, _⟩ => ⟨S1x1x1x512, .f32⟩
  | .local _ .vmem, ⟨9, _⟩ => ⟨S1x1x1x512, .f32⟩
  | .local _ .vmem, ⟨10, _⟩ => ⟨S512x128, .bf16⟩
  | .local _ .vmem, ⟨11, _⟩ => ⟨S512x128, .bf16⟩
  | .local _ .vmem, ⟨12, _⟩ => ⟨S512x1, .f32⟩
  | .local _ .vmem, ⟨13, _⟩ => ⟨S512x1, .f32⟩
  | .local _ .vmem, ⟨14, _⟩ => ⟨S512x128, .f32⟩
  | .local _ .smem, ⟨0, _⟩ => ⟨S136, .i32⟩
  | .local _ .smem, ⟨1, _⟩ => ⟨S136, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 136], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v1 : Index := Scalar.indexCast arg2
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 1 (Rect.unit (s := S136) ![v1.toNat] S1.size (k0_off1_inb i)) numel1_S1
  let v3 : BitVec 32 := Scalar.addi v0 v2
  let c0_i32 : BitVec 32 := 0#32
  ![v3.toNat, arg1.toNat]

def cc0_transform_3 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S136) ![v0.toNat] S1.size (k0_off1_inb i)) numel1_S1
  let c0_i32 : BitVec 32 := 0#32
  let c0_i32_0 : BitVec 32 := 0#32
  ![arg0.toNat, arg1.toNat, v1.toNat, c0_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S136) ![v0.toNat] S1.size (k0_off1_inb i)) numel1_S1
  let c0_i32 : BitVec 32 := 0#32
  let c0_i32_0 : BitVec 32 := 0#32
  ![arg0.toNat, arg1.toNat, c0_i32.toNat, v1.toNat]

def cc0_transform_5 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : Index := Scalar.indexCast arg2
  let v2 : BitVec 32 := pf.at 0 (Rect.unit (s := S136) ![v1.toNat] S1.size (k0_off1_inb i)) numel1_S1
  let v3 : BitVec 32 := Scalar.addi v0 v2
  let c0_i32 : BitVec 32 := 0#32
  ![v3.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S16384x1024 : Shape := ⟨2, ![16384, 1024]⟩
abbrev S16384x8 : Shape := ⟨2, ![16384, 8]⟩
abbrev S2x8192x8x128 : Shape := ⟨4, ![2, 8192, 8, 128]⟩
abbrev S2x8192x8 : Shape := ⟨3, ![2, 8192, 8]⟩
abbrev S2x8x8192 : Shape := ⟨3, ![2, 8, 8192]⟩
abbrev S8192 : Shape := ⟨1, ![8192]⟩
abbrev S2x8x8192x8192 : Shape := ⟨4, ![2, 8, 8192, 8192]⟩
abbrev S_ : Shape := ⟨0, ![]⟩
abbrev S2x8x8192x1 : Shape := ⟨4, ![2, 8, 8192, 1]⟩
abbrev S2x8x1x8192 : Shape := ⟨4, ![2, 8, 1, 8192]⟩
abbrev S8192x1 : Shape := ⟨2, ![8192, 1]⟩
abbrev S1x8192 : Shape := ⟨2, ![1, 8192]⟩
abbrev S8192x8192 : Shape := ⟨2, ![8192, 8192]⟩
abbrev S2x8x128x8192 : Shape := ⟨4, ![2, 8, 128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x8, .f32⟩
  | .hbm, ⟨4, _⟩ => ⟨S2x8192x8x128, .f32⟩
  | .hbm, ⟨5, _⟩ => ⟨S2x8192x8x128, .f32⟩
  | .hbm, ⟨6, _⟩ => ⟨S2x8192x8x128, .f32⟩
  | .hbm, ⟨7, _⟩ => ⟨S2x8192x8, .f32⟩
  | .hbm, ⟨8, _⟩ => ⟨S2x8x8192, .f32⟩
  | .hbm, ⟨9, _⟩ => ⟨S8192, .i32⟩
  | .hbm, ⟨10, _⟩ => ⟨S2x8x8192x8192, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S2x8x8192x1, .f32⟩
  | .hbm, ⟨15, _⟩ => ⟨S2x8x8192x8192, .f32⟩
  | .hbm, ⟨16, _⟩ => ⟨S2x8x8192x8192, .f32⟩
  | .hbm, ⟨17, _⟩ => ⟨S2x8x1x8192, .f32⟩
  | .hbm, ⟨18, _⟩ => ⟨S2x8x8192x8192, .f32⟩
  | .hbm, ⟨19, _⟩ => ⟨S2x8x8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S_, .f32⟩
  | .hbm, ⟨33, _⟩ => ⟨S2x8x8192, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S2x8x8192, .f32⟩
  | .hbm, ⟨41, _⟩ => ⟨S2x8x8192x1, .f32⟩
  | .hbm, ⟨42, _⟩ => ⟨S2x8x8192x8192, .f32⟩
  | .hbm, ⟨43, _⟩ => ⟨S2x8x8192x8192, .f32⟩
  | .hbm, ⟨44, _⟩ => ⟨S2x8x128x8192, .f32⟩
  | .hbm, ⟨45, _⟩ => ⟨S2x8192x8x128, .f32⟩
  | .hbm, ⟨46, _⟩ => ⟨S16384x1024, .f32⟩
  | .hbm, ⟨47, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Inproj.lean ====
abbrev S16384x1024 : Shape := ⟨2, ![16384, 1024]⟩
abbrev S2x1x6144 : Shape := ⟨3, ![2, 1, 6144]⟩
abbrev S1x1024x7176 : Shape := ⟨3, ![1, 1024, 7176]⟩
abbrev S1x8 : Shape := ⟨2, ![1, 8]⟩
abbrev S1024x7176 : Shape := ⟨2, ![1024, 7176]⟩
abbrev S1024x8 : Shape := ⟨2, ![1024, 8]⟩
abbrev S_ : Shape := ⟨0, ![]⟩
abbrev S1024x128 : Shape := ⟨2, ![1024, 128]⟩
abbrev S1024x5120 : Shape := ⟨2, ![1024, 5120]⟩
abbrev S1024x2048 : Shape := ⟨2, ![1024, 2048]⟩
abbrev S1024x7296 : Shape := ⟨2, ![1024, 7296]⟩
abbrev S8 : Shape := ⟨1, ![8]⟩
abbrev S128 : Shape := ⟨1, ![128]⟩
abbrev S1x128 : Shape := ⟨2, ![1, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S16384x8 : Shape := ⟨2, ![16384, 8]⟩
abbrev S256x1024 : Shape := ⟨2, ![256, 1024]⟩
abbrev S1x1x1024 : Shape := ⟨3, ![1, 1, 1024]⟩
abbrev S256x8 : Shape := ⟨2, ![256, 8]⟩
abbrev S1x1024 : Shape := ⟨2, ![1, 1024]⟩
abbrev S1024x1024 : Shape := ⟨2, ![1024, 1024]⟩
abbrev S256x128 : Shape := ⟨2, ![256, 128]⟩

abbrev nBuf : Space → Nat
  | .hbm => 37
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1x1024x7176, .f32⟩
  | .hbm, ⟨3, _⟩ => ⟨S1x8, .f32⟩
  | .hbm, ⟨4, _⟩ => ⟨S1024x7176, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x5120, .f32⟩
  | .hbm, ⟨10, _⟩ => ⟨S1024x2048, .f32⟩
  | .hbm, ⟨11, _⟩ => ⟨S1024x7296, .f32⟩
  | .hbm, ⟨12, _⟩ => ⟨S1024x7296, .bf16⟩
  | .hbm, ⟨13, _⟩ => ⟨S8, .f32⟩
  | .hbm, ⟨14, _⟩ => ⟨S_, .i32⟩
  | .hbm, ⟨15, _⟩ => ⟨S_, .f32⟩
  | .hbm, ⟨16, _⟩ => ⟨S128, .f32⟩
  | .hbm, ⟨17, _⟩ => ⟨S1x128, .f32⟩
  | .hbm, ⟨18, _⟩ => ⟨S256, .i32⟩
  | .hbm, ⟨19, _⟩ => ⟨S256x1, .i32⟩
  | .hbm, ⟨20, _⟩ => ⟨S256, .i32⟩
  | .hbm, ⟨21, _⟩ => ⟨S1x256, .i32⟩
  | .hbm, ⟨22, _⟩ => ⟨S256x256, .i32⟩
  | .hbm, ⟨23, _⟩ => ⟨S256x256, .i32⟩
  | .hbm, ⟨24, _⟩ => ⟨S256x256, .i1⟩
  | .hbm, ⟨25, _⟩ => ⟨S256x256, .bf16⟩
  | .hbm, ⟨26, _⟩ => ⟨S16384x1024, .f32⟩
  | .hbm, ⟨27, _⟩ => ⟨S16384x1024, .f32⟩
  | .hbm, ⟨28, _⟩ => ⟨S16384x1024, .bf16⟩
  | .hbm, ⟨29, _⟩ => ⟨S16384x1024, .f32⟩
  | .hbm, ⟨30, _⟩ => ⟨S16384x1024, .f32⟩
  | .hbm, ⟨31, _⟩ => ⟨S16384x1024, .bf16⟩
  | .hbm, ⟨32, _⟩ => ⟨S16384x1024, .bf16⟩
  | .hbm, ⟨33, _⟩ => ⟨S16384x1024, .f32⟩
  | .hbm, ⟨34, _⟩ => ⟨S16384x1024, .f32⟩
  | .hbm, ⟨35, _⟩ => ⟨S16384x8, .f32⟩
  | .hbm, ⟨36, _⟩ => ⟨S16384x8, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x7296, .bf16⟩
  | .local _ .vmem, ⟨7, _⟩ => ⟨S1x128, .f32⟩
  | .local _ .vmem, ⟨8, _⟩ => ⟨S256x256, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x8, .f32⟩
  | .local _ .vmem, ⟨28, _⟩ => ⟨S256x8, .f32⟩
  | .local _ .vmem, ⟨29, _⟩ => ⟨S256x8, .f32⟩
  | .local _ .vmem, ⟨30, _⟩ => ⟨S256x8, .f32⟩
  | .local _ .vmem, ⟨31, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev main_v18_4 : Ref sig .tc := ⟨.hbm, 30, rfl⟩
abbrev main_v18_5 : Ref sig .tc := ⟨.hbm, 31, rfl⟩
abbrev main_v18_6 : Ref sig .tc := ⟨.hbm, 32, rfl⟩
abbrev main_v18_7 : Ref sig .tc := ⟨.hbm, 33, rfl⟩
abbrev main_v18_8 : Ref sig .tc := ⟨.hbm, 34, rfl⟩
abbrev main_v18_9 : Ref sig .tc := ⟨.hbm, 35, rfl⟩
abbrev main_v18_10 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x7296 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== InprojRefIdeal.lean ====
abbrev S16384x1024 : Shape := ⟨2, ![16384, 1024]⟩
abbrev S2x1x6144 : Shape := ⟨3, ![2, 1, 6144]⟩
abbrev S1x1024x7176 : Shape := ⟨3, ![1, 1024, 7176]⟩
abbrev S1x8 : Shape := ⟨2, ![1, 8]⟩
abbrev S2x1x1024 : Shape := ⟨3, ![2, 1, 1024]⟩
abbrev S2x8192x1024 : Shape := ⟨3, ![2, 8192, 1024]⟩
abbrev S_ : Shape := ⟨0, ![]⟩
abbrev S1024x7176 : Shape := ⟨2, ![1024, 7176]⟩
abbrev S2x8192x7176 : Shape := ⟨3, ![2, 8192, 7176]⟩
abbrev S16384x7176 : Shape := ⟨2, ![16384, 7176]⟩
abbrev S16384x8 : Shape := ⟨2, ![16384, 8]⟩
abbrev S8 : Shape := ⟨1, ![8]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x8192x8 : Shape := ⟨3, ![2, 8192, 8]⟩
abbrev S2x8x8192 : Shape := ⟨3, ![2, 8, 8192]⟩

abbrev nBuf : Space → Nat
  | .hbm => 62
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1x6144, .f32⟩
  | .hbm, ⟨2, _⟩ => ⟨S1x1024x7176, .f32⟩
  | .hbm, ⟨3, _⟩ => ⟨S1x8, .f32⟩
  | .hbm, ⟨4, _⟩ => ⟨S2x1x1024, .f32⟩
  | .hbm, ⟨5, _⟩ => ⟨S2x1x1024, .f32⟩
  | .hbm, ⟨6, _⟩ => ⟨S2x8192x1024, .f32⟩
  | .hbm, ⟨7, _⟩ => ⟨S_, .f32⟩
  | .hbm, ⟨8, _⟩ => ⟨S2x1x1024, .f32⟩
  | .hbm, ⟨9, _⟩ => ⟨S2x1x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S1024x7176, .f32⟩
  | .hbm, ⟨15, _⟩ => ⟨S2x8192x7176, .f32⟩
  | .hbm, ⟨16, _⟩ => ⟨S16384x7176, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x8, .f32⟩
  | .hbm, ⟨23, _⟩ => ⟨S16384x1024, .f32⟩
  | .hbm, ⟨24, _⟩ => ⟨S16384x1024, .f32⟩
  | .hbm, ⟨25, _⟩ => ⟨S8, .f32⟩
  | .hbm, ⟨26, _⟩ => ⟨S1x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S_, .f32⟩
  | .hbm, ⟨31, _⟩ => ⟨S16384x8, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S16384x8, .i1⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .f32⟩
  | .hbm, ⟨45, _⟩ => ⟨S8192, .i32⟩
  | .hbm, ⟨46, _⟩ => ⟨S8192x1, .i32⟩
  | .hbm, ⟨47, _⟩ => ⟨S1x8192, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S8192x8192, .f32⟩
  | .hbm, ⟨52, _⟩ => ⟨S2x8192x8, .f32⟩
  | .hbm, ⟨53, _⟩ => ⟨S2x8x8192, .f32⟩
  | .hbm, ⟨54, _⟩ => ⟨S2x8192x8, .f32⟩
  | .hbm, ⟨55, _⟩ => ⟨S16384x8, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .bf16⟩
  | .hbm, ⟨60, _⟩ => ⟨S16384x1024, .bf16⟩
  | .hbm, ⟨61, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]
-- ==== Merge.lean ====
abbrev S16384x1024 : Shape := ⟨2, ![16384, 1024]⟩
abbrev S2x1x6144 : Shape := ⟨3, ![2, 1, 6144]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x1024 : Shape := ⟨2, ![1024, 1024]⟩
abbrev S1024 : Shape := ⟨1, ![1024]⟩
abbrev S1024x32 : Shape := ⟨2, ![1024, 32]⟩
abbrev S1024x4 : Shape := ⟨2, ![1024, 4]⟩
abbrev S1024x36 : Shape := ⟨2, ![1024, 36]⟩
abbrev S_ : Shape := ⟨0, ![]⟩
abbrev S1024x128 : Shape := ⟨2, ![1024, 128]⟩
abbrev S32 : Shape := ⟨1, ![32]⟩
abbrev S4 : Shape := ⟨1, ![4]⟩
abbrev S36 : Shape := ⟨1, ![36]⟩
abbrev S128 : Shape := ⟨1, ![128]⟩
abbrev S1x128 : Shape := ⟨2, ![1, 128]⟩
abbrev S16384x128 : Shape := ⟨2, ![16384, 128]⟩
abbrev S256x1024 : Shape := ⟨2, ![256, 1024]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩

abbrev nBuf : Space → Nat
  | .hbm => 41
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S2x1x6144, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x1024x32, .f32⟩
  | .hbm, ⟨14, _⟩ => ⟨S1x32, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1024x1024, .f32⟩
  | .hbm, ⟨20, _⟩ => ⟨S1024x1024, .bf16⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024x32, .f32⟩
  | .hbm, ⟨26, _⟩ => ⟨S1024x4, .f32⟩
  | .hbm, ⟨27, _⟩ => ⟨S1024x36, .f32⟩
  | .hbm, ⟨28, _⟩ => ⟨S_, .i32⟩
  | .hbm, ⟨29, _⟩ => ⟨S_, .f32⟩
  | .hbm, ⟨30, _⟩ => ⟨S1024x128, .f32⟩
  | .hbm, ⟨31, _⟩ => ⟨S32, .f32⟩
  | .hbm, ⟨32, _⟩ => ⟨S4, .f32⟩
  | .hbm, ⟨33, _⟩ => ⟨S36, .f32⟩
  | .hbm, ⟨34, _⟩ => ⟨S_, .i32⟩
  | .hbm, ⟨35, _⟩ => ⟨S_, .f32⟩
  | .hbm, ⟨36, _⟩ => ⟨S128, .f32⟩
  | .hbm, ⟨37, _⟩ => ⟨S1x128, .f32⟩
  | .hbm, ⟨38, _⟩ => ⟨S16384x1024, .f32⟩
  | .hbm, ⟨39, _⟩ => ⟨S16384x1024, .bf16⟩
  | .hbm, ⟨40, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S1024x128, .f32⟩
  | .local _ .vmem, ⟨22, _⟩ => ⟨S1x128, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x128, .f32⟩
  | .local _ .vmem, ⟨28, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_6 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeRefIdeal.lean ====
abbrev S16384x1024 : Shape := ⟨2, ![16384, 1024]⟩
abbrev S2x1x6144 : Shape := ⟨3, ![2, 1, 6144]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S1024x1024 : Shape := ⟨2, ![1024, 1024]⟩
abbrev S2x8192x1024 : Shape := ⟨3, ![2, 8192, 1024]⟩
abbrev S2x1x1024 : Shape := ⟨3, ![2, 1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S2x1x6144, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x4, .f32⟩
  | .hbm, ⟨13, _⟩ => ⟨S1x1024x32, .f32⟩
  | .hbm, ⟨14, _⟩ => ⟨S1x32, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1024x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S1024x1024, .f32⟩
  | .hbm, ⟨41, _⟩ => ⟨S16384x1024, .f32⟩
  | .hbm, ⟨42, _⟩ => ⟨S2x8192x1024, .f32⟩
  | .hbm, ⟨43, _⟩ => ⟨S2x1x1024, .f32⟩
  | .hbm, ⟨44, _⟩ => ⟨S2x1x1024, .f32⟩
  | .hbm, ⟨45, _⟩ => ⟨S2x1x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S2x8192, .f32⟩
  | .hbm, ⟨57, _⟩ => ⟨S2x8192x1, .f32⟩
  | .hbm, ⟨58, _⟩ => ⟨S_, .f32⟩
  | .hbm, ⟨59, _⟩ => ⟨S2x8192x1, .f32⟩
  | .hbm, ⟨60, _⟩ => ⟨S2x8192x1, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192x1, .f32⟩
  | .hbm, ⟨74, _⟩ => ⟨S2x8192x1, .f32⟩
  | .hbm, ⟨75, _⟩ => ⟨S2x8192x1, .f32⟩
  | .hbm, ⟨76, _⟩ => ⟨S2x8192x1024, .f32⟩
  | .hbm, ⟨77, _⟩ => ⟨S2x8192x1024, .f32⟩
  | .hbm, ⟨78, _⟩ => ⟨S1x1x1024, .f32⟩
  | .hbm, ⟨79, _⟩ => ⟨S2x8192x1024, .f32⟩
  | .hbm, ⟨80, _⟩ => ⟨S2x8192x1024, .f32⟩
  | .hbm, ⟨81, _⟩ => ⟨S1x1x1024, .f32⟩
  | .hbm, ⟨82, _⟩ => ⟨S2x8192x1024, .f32⟩
  | .hbm, ⟨83, _⟩ => ⟨S2x8192x1024, .f32⟩
  | .hbm, ⟨84, _⟩ => ⟨S_, .f32⟩
  | .hbm, ⟨85, _⟩ => ⟨S2x1x1024, .f32⟩
  | .hbm, ⟨86, _⟩ => ⟨S2x1x1024, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S2x8192x1024, .f32⟩
  | .hbm, ⟨91, _⟩ => ⟨S16384x1024, .f32⟩
  | .hbm, ⟨92, _⟩ => ⟨S16384x1024, .f32⟩
  | .hbm, ⟨93, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Proof.MoeSpec.lean ====
/-
  The mathematics of the mixture-of-experts call, one entry at a time over the extended reals.
-/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MoeSpec

/-- Layer normalisation of a row `z` of 1024 entries, read at lane `l`: `(z l - mean) * rsqrt (var + eps) * g + b`. -/
def lnAt (z : Fin 1024 → EReal) (g b : EReal) (l : Fin 1024) : EReal :=
  (z l - Ideal.div (∑ k, z k) (Ideal.ofBits FTy.f32 0x44800000#32)) *
        Ideal.rsqrt
          (Ideal.div
              (∑ k, (z k - Ideal.div (∑ j, z j) (Ideal.ofBits FTy.f32 0x44800000#32)) *
                (z k - Ideal.div (∑ j, z j) (Ideal.ofBits FTy.f32 0x44800000#32)))
              (Ideal.ofBits FTy.f32 0x44800000#32) +
            Ideal.ofBits FTy.f32 0x3727C5AC#32) * g + b

/-- The gated hidden unit from its two projections `p`, `q` and the token's gate `g`. -/
def hid (p q g : EReal) : EReal := p * Ideal.logistic p * q * g

end Cert.MoeSpec
-- ==== Proof.MoeRef.lean ====
/-
  The reference mixture of experts, read at one index.
-/
module

public import proofs.«01_k».proof.Proof.MoeSpec
public import proofs.«01_k».proof.Proof.Gen.MoeRefIdeal.Run

@[expose] public section

set_option maxRecDepth 16384

noncomputable section

open Idealize.ShloMosaic Idealize.ShloMosaic.TcCoe Idealize.SL.Sem

namespace Cert.MoeRefIdeal.Value

open Cert.MoeRefIdeal Cert.MoeRefIdeal.Gen Cert.MoeSpec

/-- The reference's hidden array: every expert's gated hidden units of every token. -/
def hidArr (U : FVec Ideal S16384x1024 .bf16) (G : FVec Ideal S16384x128 .f32) (WG WU : FVec Ideal S1x32x1024x256 .f32) :
    FVec Ideal S16384x32x256 .f32 :=
  (mulf (mulf (mulf (Host.dotGeneral dot_S16384x1024_S32x1024x256_S16384x32x256_1_1_0_02_n_n none (extf .f32 U bitsLt_bf16_f32) (shapeCast _ WG shapeCasts_S1x32x1024x256_S32x1024x256)) (Host.divf (broadcastInDim S16384x32x256 ![] bcast_S_S16384x32x256 (constant S_ .f32 0x3F800000#32)) (addf (broadcastInDim S16384x32x256 ![] bcast_S_S16384x32x256 (constant S_ .f32 0x3F800000#32)) (Host.exp (Host.negf (Host.dotGeneral dot_S16384x1024_S32x1024x256_S16384x32x256_1_1_0_02_n_n none (extf .f32 U bitsLt_bf16_f32) (shapeCast _ WG shapeCasts_S1x32x1024x256_S32x1024x256))))))) (Host.dotGeneral dot_S16384x1024_S32x1024x256_S16384x32x256_1_1_0_02_n_n none (extf .f32 U bitsLt_bf16_f32) (shapeCast _ WU shapeCasts_S1x32x1024x256_S32x1024x256))) (broadcastInDim S16384x32x256 ![0, 1, 2] bcast_S16384x32x1_S16384x32x256_0_1_2 (broadcastInDim S16384x32x1 ![0, 1] bcast_S16384x32_S16384x32x1_0_1 (extractStridedSlice S16384x32 ![0, 0] G slices_S16384x128_S16384x32_0_0))))

/-- The reference's array before its normalisation. -/
def sumArr (U : FVec Ideal S16384x1024 .bf16) (G : FVec Ideal S16384x128 .f32) (X : FVec Ideal S16384x1024 .f32)
    (M : FVec Ideal S2x1x6144 .f32) (WG WU : FVec Ideal S1x32x1024x256 .f32) (WD : FVec Ideal S1x32x256x1024 .f32) :
    FVec Ideal S2x8192x1024 .f32 :=
  (addf (mulf (broadcastInDim S2x8192x1024 ![] bcast_S_S2x8192x1024 (constant S_ .f32 0x3F9837F0#32)) (shapeCast _ X shapeCasts_S16384x1024_S2x8192x1024)) (mulf (broadcastInDim S2x8192x1024 ![0, 1, 2] bcast_S2x1x1024_S2x8192x1024_0_1_2 (extractStridedSlice S2x1x1024 ![0, 0, 5120] M slices_S2x1x6144_S2x1x1024_0_0_5120)) (shapeCast _ (Host.dotGeneral dot_S16384x32x256_S32x256x1024_S16384x1024_12_01_0_2_n_n none (hidArr U G WG WU) (shapeCast _ WD shapeCasts_S1x32x256x1024_S32x256x1024)) shapeCasts_S16384x1024_S2x8192x1024)))

/-- The reference's layer normalisation of an array `Z`. -/
def lnArr (Z : FVec Ideal S2x8192x1024 .f32) (g b : FVec Ideal S1x1024 .f32) : FVec Ideal S16384x1024 .f32 :=
  shapeCast _ (addf (mulf (mulf (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32))))) (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S1x1x1024_S2x8192x1024_0_1_2 (broadcastInDim S1x1x1024 ![2] bcast_S1024_S1x1x1024_2 (shapeCast _ b shapeCasts_S1x1024_S1024)))) shapeCasts_S2x8192x1024_S16384x1024

/-- The reference's result is the normalisation of its sum. -/
theorem res_eq (m : (ℓ : Loc nD τ sig) → Buf (Elt Ideal) ℓ) (c : Dev nD) :
    res_out0 m c = lnArr (sumArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := rfl

/-- One hidden unit of the reference. -/
theorem hidArr_at (U : FVec Ideal S16384x1024 .bf16) (G : FVec Ideal S16384x128 .f32) (WG WU : FVec Ideal S1x32x1024x256 .f32)
    (n : Fin 16384) (e : Fin 32) (f : Fin 256) :
    hidArr U G WG WU (ix3 n e f) = hid (∑ k : Fin 1024, U (ix2 n k) * WG (ix4 0 e k f)) (∑ k : Fin 1024, U (ix2 n k) * WU (ix4 0 e k f)) (G (ix2 n ⟨e.val, by omega⟩)) := by
  pointwise [hidArr, hid]
  rfl

/-- One entry of the reference's sum. -/
theorem sumArr_at (U : FVec Ideal S16384x1024 .bf16) (G : FVec Ideal S16384x128 .f32) (X : FVec Ideal S16384x1024 .f32)
    (M : FVec Ideal S2x1x6144 .f32) (WG WU : FVec Ideal S1x32x1024x256 .f32) (WD : FVec Ideal S1x32x256x1024 .f32)
    (a : Fin 2) (s : Fin 8192) (l : Fin 1024) :
    sumArr U G X M WG WU WD (ix3 a s l) = Ideal.ofBits FTy.f32 0x3F9837F0#32 * X (ix2 ⟨a.val * 8192 + s.val, by omega⟩ l) +
      M (ix3 a 0 ⟨5120 + l.val, by omega⟩) * ∑ e : Fin 32, ∑ f : Fin 256,
        hid (∑ k : Fin 1024, U (ix2 ⟨a.val * 8192 + s.val, by omega⟩ k) * WG (ix4 0 e k f))
          (∑ k : Fin 1024, U (ix2 ⟨a.val * 8192 + s.val, by omega⟩ k) * WU (ix4 0 e k f))
          (G (ix2 ⟨a.val * 8192 + s.val, by omega⟩ ⟨e.val, by omega⟩)) * WD (ix4 0 e f l) := by
  simp only [← hidArr_at]
  unfold sumArr
  generalize hidArr U G WG WU = H
  pointwise []

/-- One entry of the reference's normalisation. -/
theorem lnArr_at (Z : FVec Ideal S2x8192x1024 .f32) (g b : FVec Ideal S1x1024 .f32) (n : Fin 16384) (l : Fin 1024) :
    lnArr Z g b (ix2 n l) = lnAt (fun k => Z (ix3 ⟨n.val / 8192, by omega⟩ ⟨n.val % 8192, by omega⟩ k)) (g (ix2 0 l)) (b (ix2 0 l)) l := by
  pointwise [lnArr, lnAt]

/-- One entry of the reference's result: the normalised row at token `n`, lane `l`. -/
theorem res_at (U : FVec Ideal S16384x1024 .bf16) (G : FVec Ideal S16384x128 .f32) (X : FVec Ideal S16384x1024 .f32)
    (M : FVec Ideal S2x1x6144 .f32) (WG WU : FVec Ideal S1x32x1024x256 .f32) (WD : FVec Ideal S1x32x256x1024 .f32)
    (g b : FVec Ideal S1x1024 .f32) (n : Fin 16384) (l : Fin 1024) :
    lnArr (sumArr U G X M WG WU WD) g b (ix2 n l) =
      lnAt (fun k => Ideal.ofBits FTy.f32 0x3F9837F0#32 * X (ix2 n k) +
        M (ix3 ⟨n.val / 8192, by omega⟩ 0 ⟨5120 + k.val, by omega⟩) * ∑ e : Fin 32, ∑ f : Fin 256,
        hid (∑ j : Fin 1024, U (ix2 n j) * WG (ix4 0 e j f)) (∑ j : Fin 1024, U (ix2 n j) * WU (ix4 0 e j f))
          (G (ix2 n ⟨e.val, by omega⟩)) * WD (ix4 0 e f k)) (g (ix2 0 l)) (b (ix2 0 l)) l := by
  rw [lnArr_at]
  have hn : (⟨n.val / 8192 * 8192 + n.val % 8192, by omega⟩ : Fin 16384) = n := Fin.ext (by dsimp only; omega)
  simp only [sumArr_at, hn]

end Cert.MoeRefIdeal.Value
-- ==== Proof.MoeValue.lean ====
/-
  The mixture-of-experts call: the array it ends holding is the reference's, entry by entry.
-/
module

public import proofs.«01_k».proof.Proof.MoeRef
public import proofs.«01_k».proof.Proof.Gen.MoeIdeal.Value

@[expose] public section

set_option maxRecDepth 16384

noncomputable section

open Idealize.ShloMosaic Idealize.ShloMosaic.TcCoe Idealize.SL.Sem

open Idealize.ShloMosaic.Pipeline (Dat)

namespace Cert.MoeIdeal.Value

open Cert.MoeIdeal Cert.MoeIdeal.Gen Cert.MoeSpec

/-- The reset stores zero everywhere. -/
theorem zero_at (j : S512x1024.Idx) : (k0_pay2 (F := Ideal)) j = (0 : EReal) := by
  pointwise [k0_pay2]

/-- Selecting lane `e` and adding over the lanes reads lane `e`. -/
theorem pick (e : ℕ) (he : e < 32) (G : Fin 128 → EReal) :
    ∑ x : Fin 128, Scalar.select (IntOp.cmpi CmpIPredicate.eq (BitVec.ofNat 32 x.val) (BitVec.ofNat 32 e)) (G x) 0
      = G ⟨e, by omega⟩ := by
  rw [Finset.sum_eq_single (⟨e, by omega⟩ : Fin 128)]
  · simp [Scalar.select, IntOp.cmpi]
  · intro x _ hx
    have : BitVec.ofNat 32 x.val ≠ BitVec.ofNat 32 e := by
      intro h
      have h' := congrArg BitVec.toNat h
      simp only [BitVec.toNat_ofNat] at h'
      apply hx
      apply Fin.ext
      dsimp only
      omega
    have hb : (BitVec.ofNat 32 x.val == BitVec.ofNat 32 e) = false := by simpa using this
    simp [Scalar.select, IntOp.cmpi, hb]
  · intro h
    exact absurd (Finset.mem_univ _) h

/-- One step of the expert sum: the accumulator plus the expert's gated product. -/
theorem step_at (i : grid0.Coords) (u : Vec Ideal S512x1024 .bf16) (g : Vec Ideal S512x128 .f32)
    (wg wu : Vec Ideal S1x1024x256 .bf16) (a : Vec Ideal S512x1024 .f32) (wd : Vec Ideal S1x256x1024 .bf16)
    (j : S512x1024.Idx) :
    k0_pay3 i u g wg wu a wd j = a j + ∑ f : Fin 256, hid (∑ k : Fin 1024, u (ix2 (j 0) k) * wg (ix3 0 k f))
      (∑ k : Fin 1024, u (ix2 (j 0) k) * wu (ix3 0 k f))
      (g (ix2 (j 0) ⟨(i 1).val, lt_of_lt_of_le (i 1).isLt (by decide)⟩)) * wd (ix3 0 f (j 1)) := by
  have hi : (i 1).val < 32 := (i 1).isLt
  have hp := pick (i 1).val hi (fun x => g (ix2 (j 0) x))
  pointwise [k0_pay3, hid]
  simp only [hp]

/-- What the last expert's point writes: the normalised row. -/
theorem out_at (x : Vec Ideal S512x1024 .f32) (q : Vec Ideal S1x1x1024 .f32) (a : Vec Ideal S512x1024 .f32)
    (g b : Vec Ideal S1x1024 .f32) (j : S512x1024.Idx) :
    k0_pay1 x q a g b j = lnAt (fun k => Ideal.ofBits FTy.f32 0x3F9837F0#32 * x (ix2 (j 0) k) + q (ix3 0 0 k) * a (ix2 (j 0) k))
      (g (ix2 0 (j 1))) (b (ix2 0 (j 1))) (j 1) := by
  pointwise [k0_pay1, lnAt]

/-- The blocks the grid points read and write. -/
theorem idx : ∀ t : Fin cfg0.N, win0_0.index t = ![t.val / 32, 0] ∧ win0_1.index t = ![t.val / 32, 0] ∧
    win0_2.index t = ![t.val % 32, 0, 0] ∧ win0_3.index t = ![t.val % 32, 0, 0] ∧ win0_4.index t = ![t.val % 32, 0, 0] ∧
    win0_5.index t = ![t.val / 32, 0] ∧ win0_6.index t = ![t.val / 512, 0, 5] ∧ win0_7.index t = ![0, 0] ∧
    win0_8.index t = ![0, 0] ∧ win0_9.index t = ![t.val / 32, 0] ∧ (grid0.coords t 1).val = t.val % 32 :=
  (by decide +kernel : ∀ t : Fin grid0.N, _)

variable (m : (ℓ : Loc nD τ sig) → Buf (Elt Ideal) ℓ)

/-- The expert sum of token `n`, lane `l`, over the argument arrays. -/
def moeAt (U : FVec Ideal S16384x1024 .bf16) (G : FVec Ideal S16384x128 .f32) (WG WU : FVec Ideal S1x32x1024x256 .f32)
    (WD : FVec Ideal S1x32x256x1024 .f32) (n : Fin 16384) (l : Fin 1024) : EReal :=
  ∑ e : Fin 32, ∑ f : Fin 256,
    hid (∑ k : Fin 1024, U (ix2 n k) * WG (ix4 0 e k f)) (∑ k : Fin 1024, U (ix2 n k) * WU (ix4 0 e k f))
      (G (ix2 n ⟨e.val, by omega⟩)) * WD (ix4 0 e f l)

/-- The row of the arrays a block's row sits at. -/
abbrev rowOf (t : Fin cfg0.N) (r : Fin 512) : Fin 16384 :=
  ⟨t.val / 32 * 512 + r.val, by have := t.isLt; have hN : cfg0.N = 1024 := N_0; omega⟩

/-- The accumulator after the last expert's point: the sum over all experts of their gated products. -/
theorem acc_at (c : Dev nD) (t : Fin cfg0.N) (hf : t.val % 32 = 31) (j : S512x1024.Idx) :
    (outsAt0 m c t.val t.isLt).2 j = moeAt (m ((c : Thread nD τ).loc main_arg0)) (m ((c : Thread nD τ).loc main_arg1))
      (m ((c : Thread nD τ).loc main_arg4)) (m ((c : Thread nD τ).loc main_arg5)) (m ((c : Thread nD τ).loc main_arg6))
      (rowOf t (j 0)) (j 1) := by
  rw [Pipeline.eq_sum_fin_of_reset_step_apply_of_flush (fun n h => (outsAt0 m c n h).2) 32 (fun _ => 0) _
    (fun t h j => by rw [outsAt0_A m c t h (by omega)]; frame_out; rw [step_at, zero_at])
    (fun t h j => by
      by_cases h1 : t.val % 32 = 31
      · rw [outsAt0_C m c t h h1]; frame_out; rw [step_at, (Memref.isWhole_whole cc0_scratch0).read_unread]
      · rw [outsAt0_B m c t h h1]; frame_out; rw [step_at, (Memref.isWhole_whole cc0_scratch0).read_unread])
    t hf j, zero_add]
  unfold moeAt
  refine Finset.sum_congr rfl fun s _ => ?_
  unfold hid
  blk_point [iblk, V, idx ⟨_, Pipeline.run_point_lt_of_flush t hf s⟩]

/-- What the flushing point leaves in the output's buffer: the normalisation over the accumulator it leaves. -/
theorem flush_eq (c : Dev nD) (t : Fin cfg0.N) (hf : t.val % 32 = 31) :
    (outsAt0 m c t.val t.isLt).1 = k0_pay1 (iblk m c 5 t) (iblk m c 6 t) (outsAt0 m c t.val t.isLt).2 (iblk m c 7 t) (iblk m c 8 t) := by
  rw [outsAt0_C m c t (by omega) hf]
  frame_out

/-- The result array: the reference's, over the same arguments. -/
theorem final (c : Dev nD) : (dats m 0 c).arrAt 9 cfg0.N
    = Cert.MoeRefIdeal.Value.lnArr (Cert.MoeRefIdeal.Value.sumArr (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))) (m ((c : Thread nD τ).loc main_arg7))
        (m ((c : Thread nD τ).loc main_arg8)) := by
  refine (dats m 0 c).arrAt_eq_of_covers 9 _ (by decide +kernel) fun t hf y => ?_
  have hf' := (flush0_9 t).mp hf
  blk_simp
  rw [after0_9, flush_eq m c t hf', out_at]
  simp only [acc_at m c t hf']
  have hy : ((cfg0.win 9).blk t).view.emb y = ix2 (rowOf t (y 0)) (y 1) := by
    blk_ext [idx t]
  refine Eq.trans ?_ (congrArg _ hy).symm
  refine Eq.trans ?_ (Cert.MoeRefIdeal.Value.res_at _ _ _ _ _ _ _ _ _ (rowOf t (y 0)) (y 1)).symm
  show lnAt _ _ _ (y 1) = lnAt _ _ _ (y 1)
  congr 1
  · funext k
    refine congrArg₂ (· + ·) (congrArg _ ?_) (congrArg₂ (· * ·) ?_ rfl)
    · blk_ext [iblk, V, idx t]
    · blk_ext [iblk, V, idx t]
  · blk_point [iblk, V, idx t]
  · blk_point [iblk, V, idx t]

end Cert.MoeIdeal.Value
-- ==== Proof.AttnTabs.lean ====
/-
  The attention body of `Attn`, over the whole grid.
-/
module

public import proofs.«01_k».proof.Proof.AttnSteps
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async true

noncomputable section

namespace Cert.Attn.Fox

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Bits) ℕ (UR sig nD τ) ℕ

/-- The two tables' contents: the query tile and the key tile of each step. -/
def tabs : pre0.Contents (Elt Bits) := fun
  | ⟨0, _⟩ => fun i => lit0 (S136.rowMajor i)
  | ⟨1, _⟩ => fun i => lit1 (S136.rowMajor i)
  | ⟨_ + 2, h⟩ => absurd h (by simp)

/-- The blocks of window 0 lie inside its array. -/
theorem inb0 : ∀ i : grid0.Coords, ∀ a, (cc0_transform_0 k0_off1_inb numel1_S1 tabs i a + 1) * S512x128.size a ≤ S16384x1024.size a := by decide +kernel

/-- The blocks of window 1 lie inside its array. -/
theorem inb1 : ∀ i : grid0.Coords, ∀ a, (cc0_transform_1 k0_off1_inb numel1_S1 tabs i a + 1) * S512x128.size a ≤ S16384x1024.size a := by decide +kernel

/-- The blocks of window 2 lie inside its array. -/
theorem inb2 : ∀ i : grid0.Coords, ∀ a, (cc0_transform_2 k0_off1_inb numel1_S1 tabs i a + 1) * S512x128.size a ≤ S16384x1024.size a := by decide +kernel

/-- The blocks of window 3 lie inside its array. -/
theorem inb3 : ∀ i : grid0.Coords, ∀ a, (cc0_transform_3 k0_off1_inb numel1_S1 tabs i a + 1) * S1x1x512x1.size a ≤ S2x8x8192x1.size a := by decide +kernel

/-- The blocks of window 4 lie inside its array. -/
theorem inb4 : ∀ i : grid0.Coords, ∀ a, (cc0_transform_4 k0_off1_inb numel1_S1 tabs i a + 1) * S1x1x1x512.size a ≤ S2x8x1x8192.size a := by decide +kernel

/-- The blocks of window 5 lie inside its array. -/
theorem inb5 : ∀ i : grid0.Coords, ∀ a, (cc0_transform_5 k0_off1_inb numel1_S1 tabs i a + 1) * S512x128.size a ≤ S16384x1024.size a := by decide +kernel

/-- At these tables every block lies inside its array. -/
theorem ok : ok0 (F := Bits) tabs := ⟨fun i => ⟨inb0 i, .inr (Affine.block_words_dvd (s := S16384x1024) (p := EltTy.packing .bf16) (by decide) (by decide))⟩, fun i => ⟨inb1 i, .inr (Affine.block_words_dvd (s := S16384x1024) (p := EltTy.packing .bf16) (by decide) (by decide))⟩, fun i => ⟨inb2 i, .inr (Affine.block_words_dvd (s := S16384x1024) (p := EltTy.packing .bf16) (by decide) (by decide))⟩, fun i => ⟨inb3 i, .inl rfl⟩, fun i => ⟨inb4 i, .inl rfl⟩, fun i => ⟨inb5 i, .inr (Affine.block_words_dvd (s := S16384x1024) (p := EltTy.packing .bf16) (by decide) (by decide))⟩⟩

/-- The tables as admissible contents, and the pipeline at them. -/
def adm : (pcfg0 (F := Bits)).Adm := ⟨tabs, ok⟩
abbrev cfgA : Pipeline.Cfg sig Λ₀ := cfg0 (F := Bits) adm
abbrev pcs : Fin 1 → Pipeline.Cfg sig Λ₀ := Pipeline.pin (pcfgs (F := Bits)) fun _ => adm

/-- The coordinates of a grid point, and the two words read there. -/
abbrev crd (t : Fin cfgA.N) : cfgA.grid.Coords := cfgA.grid.coords t
abbrev qw (t : Fin cfgA.N) : BitVec 32 := word (F := Bits) tabQ (crd t) (tabs 0)
abbrev kw (t : Fin cfgA.N) : BitVec 32 := word (F := Bits) tabK (crd t) (tabs 1)
abbrev ms0 (t : Fin cfgA.N) : Memref sig .tc .vmem S512x128 .bf16 := spec0_0.stage (cfgA.slots t (0 : Fin 6))
abbrev hs0 (t : Fin cfgA.N) : (ms0 t).IsWhole := hstage0_0 ((cfgA.slots t (0 : Fin 6)).cast nbuf0_0)
abbrev ms1 (t : Fin cfgA.N) : Memref sig .tc .vmem S512x128 .bf16 := spec0_1.stage (cfgA.slots t (1 : Fin 6))
abbrev hs1 (t : Fin cfgA.N) : (ms1 t).IsWhole := hstage0_1 ((cfgA.slots t (1 : Fin 6)).cast nbuf0_1)
abbrev ms2 (t : Fin cfgA.N) : Memref sig .tc .vmem S512x128 .bf16 := spec0_2.stage (cfgA.slots t (2 : Fin 6))
abbrev hs2 (t : Fin cfgA.N) : (ms2 t).IsWhole := hstage0_2 ((cfgA.slots t (2 : Fin 6)).cast nbuf0_2)
abbrev ms3 (t : Fin cfgA.N) : Memref sig .tc .vmem S1x1x512x1 .f32 := spec0_3.stage (cfgA.slots t (3 : Fin 6))
abbrev hs3 (t : Fin cfgA.N) : (ms3 t).IsWhole := hstage0_3 ((cfgA.slots t (3 : Fin 6)).cast nbuf0_3)
abbrev ms4 (t : Fin cfgA.N) : Memref sig .tc .vmem S1x1x1x512 .f32 := spec0_4.stage (cfgA.slots t (4 : Fin 6))
abbrev hs4 (t : Fin cfgA.N) : (ms4 t).IsWhole := hstage0_4 ((cfgA.slots t (4 : Fin 6)).cast nbuf0_4)
abbrev ms5 (t : Fin cfgA.N) : Memref sig .tc .vmem S512x128 .bf16 := spec0_5.stage (cfgA.slots t (5 : Fin 6))
abbrev hs5 (t : Fin cfgA.N) : (ms5 t).IsWhole := hstage0_5 ((cfgA.slots t (5 : Fin 6)).cast nbuf0_5)

/-- What is decided of each grid point: the walk starts at a first key tile; a point on the diagonal writes the output's
    block, a point off it leaves the output idle and unwritten. -/
abbrev Facts1 (t : Fin cfgA.N) : Prop :=
  (t.val = 0 → isFirst (kw t)) ∧ (isDiag (qw t) (kw t) → ¬ isBelow (qw t) (kw t) ∧ cfgA.idle (5 : Fin 6) (crd t) = false)
    ∧ (¬ isDiag (qw t) (kw t) → isBelow (qw t) (kw t) ∧ cfgA.idle (5 : Fin 6) (crd t) = true ∧ (cfgA.win (5 : Fin 6)).flush t = false)
/-- What the points read and write, part 1 of the walk. -/
theorem facts_0 : ∀ t : Fin cfgA.N, 0 ≤ t.val → t.val < 272 → Facts1 t := by decide +kernel
/-- What the points read and write, part 2 of the walk. -/
theorem facts_1 : ∀ t : Fin cfgA.N, 272 ≤ t.val → t.val < 544 → Facts1 t := by decide +kernel
/-- What the points read and write, part 3 of the walk. -/
theorem facts_2 : ∀ t : Fin cfgA.N, 544 ≤ t.val → t.val < 816 → Facts1 t := by decide +kernel
/-- What the points read and write, part 4 of the walk. -/
theorem facts_3 : ∀ t : Fin cfgA.N, 816 ≤ t.val → t.val < 1088 → Facts1 t := by decide +kernel
/-- What the points read and write, part 5 of the walk. -/
theorem facts_4 : ∀ t : Fin cfgA.N, 1088 ≤ t.val → t.val < 1360 → Facts1 t := by decide +kernel
/-- What the points read and write, part 6 of the walk. -/
theorem facts_5 : ∀ t : Fin cfgA.N, 1360 ≤ t.val → t.val < 1632 → Facts1 t := by decide +kernel
/-- What the points read and write, part 7 of the walk. -/
theorem facts_6 : ∀ t : Fin cfgA.N, 1632 ≤ t.val → t.val < 1904 → Facts1 t := by decide +kernel
/-- What the points read and write, part 8 of the walk. -/
theorem facts_7 : ∀ t : Fin cfgA.N, 1904 ≤ t.val → t.val < 2176 → Facts1 t := by decide +kernel
/-- What is read and written is decided the same way at every point. -/
theorem facts1 (t : Fin cfgA.N) : Facts1 t := by
  have h0 : 0 ≤ t.val := Nat.zero_le _
  rcases Nat.lt_or_ge t.val 272 with h | h1; · exact facts_0 t h0 h
  rcases Nat.lt_or_ge t.val 544 with h | h2; · exact facts_1 t h1 h
  rcases Nat.lt_or_ge t.val 816 with h | h3; · exact facts_2 t h2 h
  rcases Nat.lt_or_ge t.val 1088 with h | h4; · exact facts_3 t h3 h
  rcases Nat.lt_or_ge t.val 1360 with h | h5; · exact facts_4 t h4 h
  rcases Nat.lt_or_ge t.val 1632 with h | h6; · exact facts_5 t h5 h
  rcases Nat.lt_or_ge t.val 1904 with h | h7; · exact facts_6 t h6 h
  exact facts_7 t h7 (lt_of_lt_of_eq t.isLt N_0)

end Cert.Attn.Fox

end
-- ==== Proof.AttnFrame.lean ====
/-
  The attention body of `Attn`, over the whole grid.
-/
module

public import proofs.«01_k».proof.Proof.AttnTabs
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Attn.Fox

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The buffers when the region begins: the launch contents under the host operations. -/
abbrev V (c : Dev nD) (b : Ref sig .tc) : Buf (Elt Bits) ((c : Thread nD τ).loc b) :=
  StableHlo.after (hostOps0 (F := Bits)) (fun b => m (c, b)) b
/-- The operations before the call introduce no fresh cells. -/
theorem host_fresh : (hostOps0 (F := Bits)).Forall fun op => op.fresh = ∅ := by
  simp only [List.Forall]; repeat' constructor
abbrev hostW : List (Ref sig .tc) := [main_c, main_c_0, main_cst, main_v0, main_v1, main_v2, main_v3, main_v4, main_v5, main_v6, main_v7, main_v8]
/-- The operations before the call write only the cells listed. -/
theorem host_writes : (hostOps0 (F := Bits)).Forall fun op => op.writes ⊆ (hostW.map (Proc.devRef (τ := τ) .tc)).toFinset :=
  StableHlo.forall_writes_sub_of_map rfl
/-- The program is the operations before the call, then the call. -/
theorem hmain : Pipeline.HMainP (Ix := Unit) (Name := ℕ) (U := UR sig nD τ) (Lvl := ℕ) (pcfgs (F := Bits)) 0 defs₀ Variants.none m (main (F := Bits)) (V m) :=
  Pipeline.hmainP_prefix (pcfgs (F := Bits)) 0 defs₀ Variants.none m main (hostOps0 (F := Bits)) hostOps0_sub host_fresh main_chain
/-- The call finds the table of query tiles. -/
theorem V_tab0 (c : Dev nD) : V m c main_c = tabs 0 := rfl
/-- The call finds the table of key tiles. -/
theorem V_tab1 (c : Dev nD) : V m c main_c_0 = tabs 1 := rfl
/-- The queries are as they were at the start. -/
theorem V_arg0 (c : Dev nD) : V m c main_arg0 = m ((c : Thread nD τ).loc main_arg0) := StableHlo.after_of_writes_sub (hostOps0 (F := Bits)) _ host_writes (by decide)
/-- The keys are as they were at the start. -/
theorem V_arg1 (c : Dev nD) : V m c main_arg1 = m ((c : Thread nD τ).loc main_arg1) := StableHlo.after_of_writes_sub (hostOps0 (F := Bits)) _ host_writes (by decide)
/-- The values are as they were at the start. -/
theorem V_arg2 (c : Dev nD) : V m c main_arg2 = m ((c : Thread nD τ).loc main_arg2) := StableHlo.after_of_writes_sub (hostOps0 (F := Bits)) _ host_writes (by decide)
/-- The cumulated gates are as they were at the start. -/
theorem V_arg3 (c : Dev nD) : V m c main_arg3 = m ((c : Thread nD τ).loc main_arg3) := StableHlo.after_of_writes_sub (hostOps0 (F := Bits)) _ host_writes (by decide)

/-- Window `w`'s block at point `t`, of its array as the region begins. -/
def iblk (c : Dev nD) (w : Fin cfgA.W) (t : Fin cfgA.N) : ((cfgA.win w).xblock (crd t)).Idx → Elt Bits (cfgA.win w).elt :=
  ((cfgA.win w).blk t).view.read (Elt Bits) (V m c (Pipeline.arrRef spec0 w))

/-- One point's step on the state. -/
def step (c : Dev nD) (t : Fin cfgA.N) (s : St Bits) : St Bits :=
  if isDiag (qw t) (kw t) then
    stDiag (iblk m c (0 : Fin 6) t) (iblk m c (1 : Fin 6) t) (iblk m c (2 : Fin 6) t) (iblk m c (3 : Fin 6) t) (iblk m c (4 : Fin 6) t) (if isFirst (kw t) then stInit else s)
  else
    stBelow (iblk m c (0 : Fin 6) t) (iblk m c (1 : Fin 6) t) (iblk m c (2 : Fin 6) t) (iblk m c (3 : Fin 6) t) (iblk m c (4 : Fin 6) t) (if isFirst (kw t) then stInit else s)

/-- The state before point `n`. -/
def state (c : Dev nD) : ℕ → St Bits
  | 0 => stInit
  | n + 1 => if h : n < cfgA.N then step m c ⟨n, h⟩ (state c n) else state c n

/-- The running state after a point is one step from the state before it. -/
theorem state_succ (c : Dev nD) (t : Fin cfgA.N) : state m c (t.val + 1) = step m c t (state m c t.val) := by
  obtain ⟨n, hn⟩ := t
  exact dif_pos hn

/-- The invariant before point `t`: the scratches at the state, once a point has run, and the body's halves of the tables. -/
def Phi (c : Dev nD) (t : Fin (cfgA.N + 1)) : sProp 𝕄 :=
  iprop((∃ s, ⌜t.val ≠ 0 → s = state m c t.val⌝ ∗ heldAt c s) ∗ (tabQ.view.loc (c : Thread nD τ) ↦{fullShare.right} tabs 0) ∗ (tabK.view.loc (c : Thread nD τ) ↦{fullShare.right} tabs 1) ∗ (∃ r, prngReg c r))

/-- The proof data of the pipeline. -/
def dats (_ : Fin 1) (c : Dev nD) : Dat τ (Elt Bits) Unit ℕ (UR sig nD τ) ℕ cfgA c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => stOut (state m c (t.val + 1))
  Φ t := Phi m c t
  q _ := fullShare
  owed _ := 0
/-- The array of a window is what the call found in it. -/
theorem A_eq (c : Dev nD) (w : Fin cfgA.W) : (dats m 0 c).A w = V m c (Pipeline.arrRef spec0 w) := by dsimp only [dats]
/-- What a point leaves in window 0. -/
theorem after_0 (c : Dev nD) (t : Fin cfgA.N) : (dats m 0 c).after (0 : Fin 6) t = iblk m c (0 : Fin 6) t := by dsimp only [dats]
/-- What a point leaves in window 1. -/
theorem after_1 (c : Dev nD) (t : Fin cfgA.N) : (dats m 0 c).after (1 : Fin 6) t = iblk m c (1 : Fin 6) t := by dsimp only [dats]
/-- What a point leaves in window 2. -/
theorem after_2 (c : Dev nD) (t : Fin cfgA.N) : (dats m 0 c).after (2 : Fin 6) t = iblk m c (2 : Fin 6) t := by dsimp only [dats]
/-- What a point leaves in window 3. -/
theorem after_3 (c : Dev nD) (t : Fin cfgA.N) : (dats m 0 c).after (3 : Fin 6) t = iblk m c (3 : Fin 6) t := by dsimp only [dats]
/-- What a point leaves in window 4. -/
theorem after_4 (c : Dev nD) (t : Fin cfgA.N) : (dats m 0 c).after (4 : Fin 6) t = iblk m c (4 : Fin 6) t := by dsimp only [dats]
/-- What a point leaves in window 5. -/
theorem after_5 (c : Dev nD) (t : Fin cfgA.N) : (dats m 0 c).after (5 : Fin 6) t = stOut (state m c (t.val + 1)) := by dsimp only [dats]
/-- What a point finds in window 0. -/
theorem before_0 (c : Dev nD) (t : Fin cfgA.N) (d) : (dats m 0 c).before (0 : Fin 6) t d = iblk m c (0 : Fin 6) t :=
  ((dats m 0 c).before_in_eq_fetched (0 : Fin 6) rfl (fun _ => rfl) (fun _ _ _ => rfl) (fun t => by rw [after_0]; unfold Dat.blockOf iblk; rfl) t d).trans (by unfold Dat.fetched Dat.blockOf iblk; rfl)
/-- What a point finds in window 1. -/
theorem before_1 (c : Dev nD) (t : Fin cfgA.N) (d) : (dats m 0 c).before (1 : Fin 6) t d = iblk m c (1 : Fin 6) t :=
  ((dats m 0 c).before_in_eq_fetched (1 : Fin 6) rfl (fun _ => rfl) (fun _ _ _ => rfl) (fun t => by rw [after_1]; unfold Dat.blockOf iblk; rfl) t d).trans (by unfold Dat.fetched Dat.blockOf iblk; rfl)
/-- What a point finds in window 2. -/
theorem before_2 (c : Dev nD) (t : Fin cfgA.N) (d) : (dats m 0 c).before (2 : Fin 6) t d = iblk m c (2 : Fin 6) t :=
  ((dats m 0 c).before_in_eq_fetched (2 : Fin 6) rfl (fun _ => rfl) (fun _ _ _ => rfl) (fun t => by rw [after_2]; unfold Dat.blockOf iblk; rfl) t d).trans (by unfold Dat.fetched Dat.blockOf iblk; rfl)
/-- What a point finds in window 3. -/
theorem before_3 (c : Dev nD) (t : Fin cfgA.N) (d) : (dats m 0 c).before (3 : Fin 6) t d = iblk m c (3 : Fin 6) t :=
  ((dats m 0 c).before_in_eq_fetched (3 : Fin 6) rfl (fun _ => rfl) (fun _ _ _ => rfl) (fun t => by rw [after_3]; unfold Dat.blockOf iblk; rfl) t d).trans (by unfold Dat.fetched Dat.blockOf iblk; rfl)
/-- What a point finds in window 4. -/
theorem before_4 (c : Dev nD) (t : Fin cfgA.N) (d) : (dats m 0 c).before (4 : Fin 6) t d = iblk m c (4 : Fin 6) t :=
  ((dats m 0 c).before_in_eq_fetched (4 : Fin 6) rfl (fun _ => rfl) (fun _ _ _ => rfl) (fun t => by rw [after_4]; unfold Dat.blockOf iblk; rfl) t d).trans (by unfold Dat.fetched Dat.blockOf iblk; rfl)

/-- The body at point `t` on its staging buffers. -/
abbrev bodyAt (t : Fin cfgA.N) : Prog (TpuEff nD τ sig (Elt Bits) Λ₀ .tc) PUnit :=
  cc0_fox_attention_prompt (crd t) tabQ (Memref.isWhole_whole _) tabK (Memref.isWhole_whole _) (ms0 t) (hs0 t) (ms1 t) (hs1 t) (ms2 t) (hs2 t) (ms3 t) (hs3 t) (ms4 t) (hs4 t) (ms5 t) (hs5 t) scrM (Memref.isWhole_whole _) scrL (Memref.isWhole_whole _) scrA (Memref.isWhole_whole _)

set_option maxHeartbeats 4000000 in
/-- The body at point `t` takes the invariant and the blocks to the invariant after it and what it leaves. -/
theorem sound_body (c : Dev nD) (t : Fin cfgA.N) :
    iprop((dats m 0 c).Φ t.castSucc ∗ (dats m 0 c).owesAt () t.castSucc ∗ (∃ d, owns (c : Thread nD τ) (ms0 t) fullShare ((dats m 0 c).before (0 : Fin 6) t d)) ∗ (∃ d, owns (c : Thread nD τ) (ms1 t) fullShare ((dats m 0 c).before (1 : Fin 6) t d)) ∗ (∃ d, owns (c : Thread nD τ) (ms2 t) fullShare ((dats m 0 c).before (2 : Fin 6) t d)) ∗ (∃ d, owns (c : Thread nD τ) (ms3 t) fullShare ((dats m 0 c).before (3 : Fin 6) t d)) ∗ (∃ d, owns (c : Thread nD τ) (ms4 t) fullShare ((dats m 0 c).before (4 : Fin 6) t d)) ∗ (∃ d, owns (c : Thread nD τ) (ms5 t) fullShare ((dats m 0 c).before (5 : Fin 6) t d)))
      ⊢ wp frame (wpE (defs₀ (F := Bits)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  obtain ⟨f0, fd, fb⟩ := facts1 t
  by_cases hf : isFirst (kw t) <;> by_cases hd : isDiag (qw t) (kw t)
  · obtain ⟨hb, hi⟩ := fd hd
    rewrite [hi]
    simp only [before_0, before_1, before_2, before_3, before_4, after_0, after_1, after_2, after_3, after_4, after_5]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stDiag (iblk m c (0 : Fin 6) t) (iblk m c (1 : Fin 6) t) (iblk m c (2 : Fin 6) t) (iblk m c (3 : Fin 6) t) (iblk m c (4 : Fin 6) t) stInit := fun s => by
      unfold step; rw [if_pos hd, if_pos hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    rw [es]
    iapply (wpFD c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) s _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexact H5
  · obtain ⟨hb, hi, hfl⟩ := fb hd
    rewrite [hi]
    simp only [before_0, before_1, before_2, before_3, before_4, after_0, after_1, after_2, after_3, after_4, after_5, hfl]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stBelow (iblk m c (0 : Fin 6) t) (iblk m c (1 : Fin 6) t) (iblk m c (2 : Fin 6) t) (iblk m c (3 : Fin 6) t) (iblk m c (4 : Fin 6) t) stInit := fun s => by
      unfold step; rw [if_neg hd, if_pos hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    rw [es]
    iapply (wpFB c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) s _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexists d5; iexact H5
  · obtain ⟨hb, hi⟩ := fd hd
    rewrite [hi]
    simp only [before_0, before_1, before_2, before_3, before_4, after_0, after_1, after_2, after_3, after_4, after_5]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stDiag (iblk m c (0 : Fin 6) t) (iblk m c (1 : Fin 6) t) (iblk m c (2 : Fin 6) t) (iblk m c (3 : Fin 6) t) (iblk m c (4 : Fin 6) t) s := fun s => by
      unfold step; rw [if_pos hd, if_neg hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    obtain rfl := hs (fun h => hf (f0 h))
    rw [es]
    iapply (wpND c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) (state m c t.val) _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexact H5
  · obtain ⟨hb, hi, hfl⟩ := fb hd
    rewrite [hi]
    simp only [before_0, before_1, before_2, before_3, before_4, after_0, after_1, after_2, after_3, after_4, after_5, hfl]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stBelow (iblk m c (0 : Fin 6) t) (iblk m c (1 : Fin 6) t) (iblk m c (2 : Fin 6) t) (iblk m c (3 : Fin 6) t) (iblk m c (4 : Fin 6) t) s := fun s => by
      unfold step; rw [if_neg hd, if_neg hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    obtain rfl := hs (fun h => hf (f0 h))
    rw [es]
    iapply (wpNB c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) (state m c t.val) _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexists d5; iexact H5

/-- The body does at every point what the running state says. -/
theorem body_obligation (c : Dev nD) : BodyObligation (dats m 0 c) (defs₀ (F := Bits)) Variants.none () Set.univ := fun t => by
  rw [bigSep_W0]
  exact sound_body m c t

/-- The tables as the region is handed them, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- What the call starts from gives the walk its first assertion. -/
theorem hin (c : Dev nD) : iprop(Pipeline.ΦA cfgA.spec c ∗ Pipeline.ΦT pre0 tabs c) ⊢ (dats m 0 c).Φ 0 := by
  unfold Pipeline.ΦA Pipeline.ΦT
  rw [show (dats m 0 c).Φ 0 = Phi m c 0 from rfl, prefHeld_eq, scopedRest0_eq]
  unfold Phi
  iintro ⟨⟨⟨⟨%a, HM⟩, ⟨%b, HL⟩, ⟨%d, HA⟩⟩, Hr⟩, HT0, HT1⟩
  isplitl [HM HL HA]
  · iexists (scrM.view.read (Elt Bits) a, scrL.view.read (Elt Bits) b, scrA.view.read (Elt Bits) d)
    isplitr
    · ipureintro; intro h; exact absurd rfl h
    · dsimp only [heldAt]
      rw [wholeM.unread_read, wholeL.unread_read, wholeA.unread_read]
      isplitl [HM]; · iexact HM
      isplitl [HL]; · iexact HL
      iexact HA
  isplitl [HT0]; · iexact HT0
  isplitl [HT1]; · iexact HT1
  iexact Hr

/-- The walk's last assertion gives back what the call owns. -/
theorem hout (c : Dev nD) : (dats m 0 c).Φ (Fin.last cfgA.N) ⊢ Pipeline.ΦA cfgA.spec c := by
  unfold Pipeline.ΦA
  rw [show (dats m 0 c).Φ (Fin.last cfgA.N) = Phi m c (Fin.last _) from rfl, scopedRest0_eq]
  unfold Phi
  iintro ⟨⟨%s, -, ⟨HM, HL, HA⟩⟩, -, -, Hr⟩
  isplitl [HM HL HA]
  · isplitl [HM]; · iexists _; iexact HM
    isplitl [HL]; · iexists _; iexact HL
    iexists _; iexact HA
  iexact Hr

/-- The prefetched tables are the ones found. -/
theorem hpf (c : Dev nD) (k : Fin 2) : V m c (pre0.ref k) = tabs k := by
  fin_cases k
  · exact V_tab0 m c
  · exact V_tab1 m c

/-- Every run ends with each window's array at what its blocks leave, every other array as the region found it, and every
    counter at zero. -/
theorem run_quiescent : θ_run (defs (F := Bits)) (onTc (τ := τ) (main (F := Bits))) (s₀ m ρ) (fun r => Pipeline.FramePost pcs (dats m) 0 (V m) r ∧ r.2.sem = fun _ => 0) :=
  Pipeline.θ_run_frameP_track (Q' := _) pcfgs (fun _ => adm) (dats m) (0 : Fin 1) (launch0 (F := Bits)) defs₀ Variants.none m ρ main
    (hbody := fun c => (body_obligation m c).loose) (hshare := fun c => (dats m 0 c).share_full fun _ => rfl)
    (howed := fun _ _ => rfl) (V := V m) (hmain := hmain m) (hA := A_eq m) (hpf := hpf m) (hin := hin m) (hout := hout m)

/-- The frame: every run ends with the arguments unchanged and every counter at zero. -/
theorem frame_run : θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Bits)) _ _).mono (fun _ h => ⟨fun c =>
    ⟨((h.1 c).2 main_arg0 (by decide)).trans (V_arg0 m c), ((h.1 c).2 main_arg1 (by decide)).trans (V_arg1 m c),
     ((h.1 c).2 main_arg2 (by decide)).trans (V_arg2 m c), ((h.1 c).2 main_arg3 (by decide)).trans (V_arg3 m c)⟩, h.2⟩)
    (run_quiescent m ρ)

end Cert.Attn.Fox

end
-- ==== Proof.AttnSpec.lean ====
/-
  Attention over extended reals: a row's softmax taken tile by tile is the softmax taken over the whole row.
-/
module

public import Idealize.ShloMosaic.PureOps
public import Idealize.ShloMosaic.Lib.Pointwise
public import Idealize.ShloMosaic.Lib.WordCmp

@[expose] public section

noncomputable section

open Idealize.ShloMosaic

namespace Cert.AttnSpec

/-- The running maximum after `n` tiles of logits. -/
def mT (T : ℕ → Fin 512 → EReal) : ℕ → EReal
  | 0 => ⊥
  | n + 1 => max (mT T n) (Finset.univ.fold max ⊥ (T n))

/-- The running normaliser after `n` tiles. -/
def lT (T : ℕ → Fin 512 → EReal) : ℕ → EReal
  | 0 => 0
  | n + 1 => Ideal.exp (mT T n - mT T (n + 1)) * lT T n + ∑ k, Ideal.exp (T n k - mT T (n + 1))

/-- The running weighted sum after `n` tiles, of the values `W`. -/
def aT (T W : ℕ → Fin 512 → EReal) : ℕ → EReal
  | 0 => 0
  | n + 1 => Ideal.exp (mT T n - mT T (n + 1)) * aT T W n + ∑ k, Ideal.exp (T n k - mT T (n + 1)) * W n k

/-- The running maximum is below a bound exactly when every logit seen is. -/
theorem mT_le (T : ℕ → Fin 512 → EReal) (x : EReal) : ∀ n, mT T n ≤ x ↔ ∀ j, j < n → ∀ k, T j k ≤ x
  | 0 => by simp [mT]
  | n + 1 => by
    rw [mT, max_le_iff, mT_le T x n, Finset.fold_max_le]
    constructor
    · rintro ⟨h, -, h'⟩ j hj k
      rcases Nat.lt_succ_iff_lt_or_eq.mp hj with hj | rfl
      · exact h j hj k
      · exact h' k (Finset.mem_univ _)
    · intro h
      exact ⟨fun j hj k => h j (Nat.lt_succ_of_lt hj) k, bot_le, fun k _ => h n (Nat.lt_succ_self _) k⟩

/-- The running maximum is real once a tile holding a real logit has been seen. -/
theorem mT_real (T : ℕ → Fin 512 → EReal) (hT : ∀ j k, T j k ≠ ⊤) (h0 : T 0 0 ≠ ⊥) (n : ℕ) : ∃ r : ℝ, mT T (n + 1) = r := by
  have h1 : mT T (n + 1) ≠ ⊥ := by
    intro h
    have := (mT_le T ⊥ (n + 1)).mp h.le 0 (Nat.succ_pos _) 0
    exact h0 (le_bot_iff.mp this)
  have h2 : ∀ n, mT T n ≠ ⊤ := by
    intro n
    induction n with
    | zero => simp [mT]
    | succ n ih =>
      have : Finset.univ.fold max ⊥ (T n) < (⊤ : EReal) :=
        (Finset.fold_max_lt (b := (⊥ : EReal)) (f := T n) (s := Finset.univ) ⊤).mpr ⟨bot_lt_top, fun k _ => lt_top_iff_ne_top.mpr (hT n k)⟩
      rw [mT]
      exact (max_lt (lt_top_iff_ne_top.mpr ih) this).ne
  exact ⟨(mT T (n + 1)).toReal, (EReal.coe_toReal (h2 _) h1).symm⟩

/-- Moving an exponential from one real base to another. -/
theorem exp_shift (a b : ℝ) (x : EReal) (hx : x ≠ ⊤) : Ideal.exp ((a : EReal) - b) * Ideal.exp (x - a) = Ideal.exp (x - b) := by
  induction x using EReal.rec with
  | bot => rw [EReal.bot_sub, EReal.bot_sub, Ideal.exp_bot, mul_zero]
  | coe r =>
    rw [← EReal.coe_sub, ← EReal.coe_sub, ← EReal.coe_sub, Ideal.exp_coe, Ideal.exp_coe, Ideal.exp_coe, ← EReal.coe_mul, ← Real.exp_add]
    congr 2; ring
  | top => exact absurd rfl hx

/-- An exponential below a real base is a real number, not negative. -/
theorem exp_real (a : ℝ) (x : EReal) (hx : x ≠ ⊤) : ∃ r : ℝ, 0 ≤ r ∧ Ideal.exp (x - a) = r := by
  induction x using EReal.rec with
  | bot => exact ⟨0, le_rfl, by rw [EReal.bot_sub, Ideal.exp_bot]; rfl⟩
  | coe r => exact ⟨Real.exp (r - a), (Real.exp_pos _).le, by rw [← EReal.coe_sub, Ideal.exp_coe]⟩
  | top => exact absurd rfl hx

/-- A real factor that is not negative goes into a sum. -/
theorem mul_sum {ι : Type*} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top _), ih]

/-- A sum of reals read as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running weighted sum is the sum, over the tiles seen, at the running maximum. -/
theorem aT_eq (T W : ℕ → Fin 512 → EReal) (hT : ∀ j k, T j k ≠ ⊤) (h0 : T 0 0 ≠ ⊥) : ∀ n,
    aT T W n = ∑ j ∈ Finset.range n, ∑ k, Ideal.exp (T j k - mT T n) * W j k
  | 0 => by simp [aT]
  | n + 1 => by
    rw [aT, aT_eq T W hT h0 n, Finset.sum_range_succ]
    congr 1
    cases n with
    | zero => simp
    | succ n =>
      obtain ⟨a, ha⟩ := mT_real T hT h0 n
      obtain ⟨b, hb⟩ := mT_real T hT h0 (n + 1)
      rw [ha, hb]
      have hc : Ideal.exp ((a : EReal) - b) = (Real.exp (a - b) : ℝ) := by rw [← EReal.coe_sub, Ideal.exp_coe]
      rw [hc, mul_sum _ _ (Real.exp_pos _).le]
      refine Finset.sum_congr rfl fun j _ => ?_
      rw [mul_sum _ _ (Real.exp_pos _).le]
      refine Finset.sum_congr rfl fun k _ => ?_
      rw [← mul_assoc, ← hc, exp_shift a b _ (hT j k)]

/-- The running normaliser is the running weighted sum of ones. -/
theorem lT_eq_aT (T : ℕ → Fin 512 → EReal) : ∀ n, lT T n = aT T (fun _ _ => 1) n
  | 0 => rfl
  | n + 1 => by simp only [lT, aT, lT_eq_aT T n, mul_one]

/-- A sum over rows of tiles is the sum over the whole. -/
theorem sum_tiles (f : ℕ → EReal) : ∀ n, ∑ i ∈ Finset.range (n * 512), f i = ∑ j ∈ Finset.range n, ∑ k : Fin 512, f (j * 512 + k.val)
  | 0 => by simp
  | n + 1 => by
    rw [Nat.succ_mul, Finset.sum_range_add, sum_tiles f n, Finset.sum_range_succ _ n, ← Fin.sum_univ_eq_sum_range (fun k => f (n * 512 + k)) 512]

/-- A row's attention: the softmax of the logits `s` applied to the values `w`, the way the reference takes it. -/
def rowAt (s w : Fin 8192 → EReal) : EReal :=
  ∑ k, w k * Ideal.div (Ideal.exp (s k - max ⊥ (Finset.univ.fold max ⊥ s)))
    (∑ k', Ideal.exp (s k' - max ⊥ (Finset.univ.fold max ⊥ s)))

/-- The tile by tile softmax of a row whose logits past the tiles seen are masked is the row's softmax. -/
theorem row_eq (s w : ℕ → EReal) (n : ℕ) (hn : n + 1 ≤ 16) (hs : ∀ k, s k ≠ ⊤) (h0 : s 0 ≠ ⊥) (hm : ∀ k, (n + 1) * 512 ≤ k → k < 8192 → s k = ⊥) :
    Ideal.div (aT (fun j k => s (j * 512 + k.val)) (fun j k => w (j * 512 + k.val)) (n + 1)) (lT (fun j k => s (j * 512 + k.val)) (n + 1))
      = rowAt (fun k => s k.val) (fun k => w k.val) := by
  set T : ℕ → Fin 512 → EReal := fun j k => s (j * 512 + k.val) with hTd
  have hT : ∀ j k, T j k ≠ ⊤ := fun j k => hs _
  have hT0 : T 0 0 ≠ ⊥ := by simpa [hTd] using h0
  obtain ⟨a, ha⟩ := mT_real T hT hT0 n
  have hM : max ⊥ (Finset.univ.fold max ⊥ fun k : Fin 8192 => s k.val) = (a : EReal) := by
    rw [← ha]
    refine eq_of_forall_ge_iff fun x => ?_
    rw [mT_le, max_le_iff, Finset.fold_max_le]
    constructor
    · rintro ⟨-, -, h⟩ j hj k
      exact h ⟨j * 512 + k.val, by have := k.isLt; omega⟩ (Finset.mem_univ _)
    · intro h
      refine ⟨bot_le, bot_le, fun k _ => ?_⟩
      by_cases hk : (n + 1) * 512 ≤ k.val
      · rw [hm _ hk k.isLt]; exact bot_le
      · have := h (k.val / 512) (by omega) ⟨k.val % 512, Nat.mod_lt _ (by decide)⟩
        have e : k.val / 512 * 512 + k.val % 512 = k.val := by omega
        simpa only [hTd, e] using this
  have cut : ∀ g : ℕ → EReal, ∑ k : Fin 8192, Ideal.exp (s k.val - a) * g k.val
      = ∑ j ∈ Finset.range (n + 1), ∑ k : Fin 512, Ideal.exp (T j k - a) * g (j * 512 + k.val) := by
    intro g
    rw [Fin.sum_univ_eq_sum_range (fun k => Ideal.exp (s k - a) * g k) 8192, ← sum_tiles (fun k => Ideal.exp (s k - a) * g k) (n + 1)]
    refine (Finset.sum_subset (fun x hx => ?_) fun x hx hx' => ?_).symm
    · rw [Finset.mem_range] at *; omega
    · rw [Finset.mem_range] at *
      rw [hm x (by omega) hx, EReal.bot_sub, Ideal.exp_bot, zero_mul]
  have hL : lT T (n + 1) = ∑ k : Fin 8192, Ideal.exp (s k.val - a) := by
    rw [lT_eq_aT, aT_eq T _ hT hT0, ha]
    refine (cut fun _ => 1).symm.trans ?_
    simp only [mul_one]
  have hA : aT T (fun j k => w (j * 512 + k.val)) (n + 1) = ∑ k : Fin 8192, Ideal.exp (s k.val - a) * w k.val := by
    rw [aT_eq T _ hT hT0, ha]
    exact (cut w).symm
  unfold rowAt
  rw [hM, hL, hA]
  choose p hp0 hp using fun k : Fin 8192 => exp_real a (s k.val) (hs _)
  have hsum : ∑ k : Fin 8192, Ideal.exp (s k.val - a) = ((∑ k, p k : ℝ) : EReal) := by
    rw [coe_sum]; exact Finset.sum_congr rfl fun k _ => hp k
  have hpos : 0 < ∑ k, p k := by
    refine Finset.sum_pos' (fun k _ => hp0 k) ⟨0, Finset.mem_univ _, ?_⟩
    have := hp 0
    have h0' : s 0 = ((s 0).toReal : EReal) := (EReal.coe_toReal (hs 0) h0).symm
    rw [show ((0 : Fin 8192).val) = 0 from rfl, h0', ← EReal.coe_sub, Ideal.exp_coe] at this
    rw [← EReal.coe_eq_coe_iff.mp this]; exact Real.exp_pos _
  have hdiv : ∀ x, Ideal.div x ((∑ k, p k : ℝ) : EReal) = (((∑ k, p k)⁻¹ : ℝ) : EReal) * x := fun x => by
    unfold Ideal.div
    rw [if_neg (by intro h; exact hpos.ne' (EReal.coe_eq_zero.mp h)), ← EReal.coe_inv, mul_comm]
  rw [hsum]
  simp only [hdiv]
  rw [mul_sum _ _ (inv_nonneg.mpr hpos.le)]
  refine Finset.sum_congr rfl fun k _ => ?_
  rw [mul_comm (w k.val), mul_assoc]

/-- The mask's word is minus infinity. -/
theorem neg_inf : Ideal.ofBits FTy.f32 0xFF800000#32 = ⊥ := by
  show Ideal.ieee 8 23 0xFF800000#32 = ⊥
  unfold Ideal.ieee
  simp

/-- The scale's word is a real number. -/
theorem scale_real : ∃ r : ℝ, Ideal.ofBits FTy.f32 0x3DB504F3#32 = r := by
  show ∃ r : ℝ, Ideal.ieee 8 23 0x3DB504F3#32 = r
  unfold Ideal.ieee
  exact ⟨_, by simp; rfl⟩

/-- The causal mask's choice. -/
theorem mask (q k : ℕ) (hq : q < 8192) (hk : k < 8192) (x y : EReal) :
    Scalar.select (IntOp.cmpi CmpIPredicate.sge (BitVec.ofNat 32 q) (BitVec.ofNat 32 k)) x y = if k ≤ q then x else y := by
  have e : IntOp.cmpi CmpIPredicate.sge (BitVec.ofNat 32 q) (BitVec.ofNat 32 k) = BitVec.ofBool (decide (k ≤ q)) := by
    rw [WordCmp.cmpi_sge_eq]
    congr 2
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact propext Int.ofNat_le
  rw [e]
  by_cases h : k ≤ q <;> simp [Scalar.select, h]

/-- Real factors and gates make a real logit, and a real scale passes through the product. -/
theorem scaled (Q K : Fin 128 → EReal) (c f g : EReal) (hQ : ∀ d, ∃ r : ℝ, Q d = r) (hK : ∀ d, ∃ r : ℝ, K d = r) (hc : ∃ r : ℝ, c = r)
    (hf : ∃ r : ℝ, f = r) (hg : ∃ r : ℝ, g = r) :
    ∑ d, Q d * c * K d = (∑ d, Q d * K d) * c ∧ ∃ r : ℝ, (∑ d, Q d * K d) * c + f - g = r := by
  choose q hq using hQ
  choose k hk using hK
  obtain ⟨c, rfl⟩ := hc
  obtain ⟨f, rfl⟩ := hf
  obtain ⟨g, rfl⟩ := hg
  simp only [hq, hk, ← EReal.coe_mul, ← coe_sum, ← EReal.coe_add, ← EReal.coe_sub]
  refine ⟨?_, _, rfl⟩
  congr 1
  rw [Finset.sum_mul]
  exact Finset.sum_congr rfl fun d _ => by ring

/-- The logit of query `q` and key `k` of head `h` in sequence `b`: the scaled product plus the gates' difference, masked for a
    key after the query. -/
def lgAt (Q K : FVec Ideal ⟨2, ![16384, 1024]⟩ .f32) (C : FVec Ideal ⟨2, ![16384, 8]⟩ .f32) (b : Fin 2) (h : Fin 8) (q : Fin 8192) (k : ℕ) : EReal :=
  if hk : k ≤ q.val then
    (∑ d : Fin 128, Q (ix2 ⟨b.val * 8192 + q.val, by omega⟩ ⟨h.val * 128 + d.val, by omega⟩) * K (ix2 ⟨b.val * 8192 + k, by omega⟩ ⟨h.val * 128 + d.val, by omega⟩))
      * Ideal.ofBits FTy.f32 0x3DB504F3#32 + C (ix2 ⟨b.val * 8192 + q.val, by omega⟩ h) - C (ix2 ⟨b.val * 8192 + k, by omega⟩ h)
  else ⊥

/-- The value of key `k`, lane `l`, in sequence `b`. -/
def vlAt (V : FVec Ideal ⟨2, ![16384, 1024]⟩ .f32) (b : Fin 2) (l : Fin 1024) (k : ℕ) : EReal :=
  if hk : k < 8192 then V (ix2 ⟨b.val * 8192 + k, by omega⟩ l) else 0

end Cert.AttnSpec
-- ==== Proof.AttnRef.lean ====
/-
  The reference attention, read at one index.
-/
module

public import proofs.«01_k».proof.Proof.AttnSpec
public import proofs.«01_k».proof.Proof.Gen.AttnRefIdeal.Run

@[expose] public section

set_option maxRecDepth 16384

noncomputable section

open Idealize.ShloMosaic Idealize.ShloMosaic.TcCoe Idealize.SL.Sem

namespace Cert.AttnRefIdeal.Value

open Cert.AttnRefIdeal Cert.AttnRefIdeal.Gen Cert.AttnSpec

/-- The reference's masked logits. -/
def logArr (Q K : FVec Ideal S16384x1024 .f32) (C : FVec Ideal S16384x8 .f32) : FVec Ideal S2x8x8192x8192 .f32 :=
  (select (broadcastInDim S2x8x8192x8192 ![2, 3] bcast_S8192x8192_S2x8x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (subf (addf (mulf (Host.dotGeneral dot_S2x8192x8x128_S2x8192x8x128_S2x8x8192x8192_3_3_1_1_02_02 none (shapeCast _ Q shapeCasts_S16384x1024_S2x8192x8x128) (shapeCast _ K shapeCasts_S16384x1024_S2x8192x8x128)) (broadcastInDim S2x8x8192x8192 ![] bcast_S_S2x8x8192x8192 (constant S_ .f32 0x3DB504F3#32))) (broadcastInDim S2x8x8192x8192 ![0, 1, 2, 3] bcast_S2x8x8192x1_S2x8x8192x8192_0_1_2_3 (broadcastInDim S2x8x8192x1 ![0, 1, 2] bcast_S2x8x8192_S2x8x8192x1_0_1_2 (transpose S2x8x8192 [0, 2, 1] (shapeCast _ C shapeCasts_S16384x8_S2x8192x8) transposes_S2x8192x8_S2x8x8192_0_2_1)))) (broadcastInDim S2x8x8192x8192 ![0, 1, 2, 3] bcast_S2x8x1x8192_S2x8x8192x8192_0_1_2_3 (broadcastInDim S2x8x1x8192 ![0, 1, 3] bcast_S2x8x8192_S2x8x1x8192_0_1_3 (transpose S2x8x8192 [0, 2, 1] (shapeCast _ C shapeCasts_S16384x8_S2x8192x8) transposes_S2x8192x8_S2x8x8192_0_2_1)))) (broadcastInDim S2x8x8192x8192 ![] bcast_S_S2x8x8192x8192 (id (constant S_ .f32 0xFF800000#32))))

/-- Each row's maximum. -/
def maxArr (S : FVec Ideal S2x8x8192x8192 .f32) : FVec Ideal S2x8x8192 .f32 :=
  (maximumf (broadcastInDim S2x8x8192 ![] bcast_S_S2x8x8192 (constant S_ .f32 0xFF800000#32)) (Host.reduce FloatOps.maximumf S (constant S_ .f32 0xFF800000#32) reducesTo_S2x8x8192x8192_S2x8x8192_d3 h_S_))

/-- The exponentials of the logits below their row's maximum. -/
def expArr (S : FVec Ideal S2x8x8192x8192 .f32) : FVec Ideal S2x8x8192x8192 .f32 :=
  (Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 (maxArr S)))))

/-- The normalised exponentials applied to the values. -/
def outArr (V : FVec Ideal S16384x1024 .f32) (P : FVec Ideal S2x8x8192x8192 .f32) : FVec Ideal S16384x1024 .bf16 :=
  truncf .bf16 (shapeCast _ (transpose S2x8192x8x128 [0, 3, 1, 2] (Host.dotGeneral dot_S2x8192x8x128_S2x8x8192x8192_S2x8x128x8192_1_3_3_2_02_01 none (shapeCast _ V shapeCasts_S16384x1024_S2x8192x8x128) (Host.divf P (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd P (constant S_ .f32 0x00000000#32) reducesTo_S2x8x8192x8192_S2x8x8192_d3 h_S_))))) transposes_S2x8x128x8192_S2x8192x8x128_0_3_1_2) shapeCasts_S2x8192x8x128_S16384x1024) bitsLt_bf16_f32

/-- The reference's result in these terms. -/
theorem res_eq (m : (ℓ : Loc nD τ sig) → Buf (Elt Ideal) ℓ) (c : Dev nD) :
    res_out0 m c = outArr (m ((c.tc : Thread nD τ).loc main_arg2)) (expArr (logArr (m ((c.tc : Thread nD τ).loc main_arg0)) (m ((c.tc : Thread nD τ).loc main_arg1)) (m ((c.tc : Thread nD τ).loc main_arg3)))) := rfl

/-- One masked logit. -/
theorem logArr_at (Q K : FVec Ideal S16384x1024 .f32) (C : FVec Ideal S16384x8 .f32) (b : Fin 2) (h : Fin 8) (q k : Fin 8192) :
    logArr Q K C (ix4 b h q k) = lgAt Q K C b h q k.val := by
  have h : logArr Q K C (ix4 b h q k) = Scalar.select (IntOp.cmpi CmpIPredicate.sge (BitVec.ofNat 32 q.val) (BitVec.ofNat 32 k.val))
      ((∑ d : Fin 128, Q (ix2 ⟨b.val * 8192 + q.val, by omega⟩ ⟨h.val * 128 + d.val, by omega⟩) * K (ix2 ⟨b.val * 8192 + k.val, by omega⟩ ⟨h.val * 128 + d.val, by omega⟩))
        * Ideal.ofBits FTy.f32 0x3DB504F3#32 + C (ix2 ⟨b.val * 8192 + q.val, by omega⟩ h) - C (ix2 ⟨b.val * 8192 + k.val, by omega⟩ h))
      (Ideal.ofBits FTy.f32 0xFF800000#32) := by
    pointwise [logArr]
    rfl
  rw [h, mask _ _ q.isLt k.isLt, neg_inf]
  unfold lgAt
  by_cases hk : k.val ≤ q.val
  · rw [if_pos hk, dif_pos hk]
  · rw [if_neg hk, dif_neg hk]

/-- A maximum over the last of four axes, from an initial value: the fold of `max`. -/
theorem fold_last {n0 n1 n2 n3 : ℕ} {u : Shape} (S : (⟨4, ![n0, n1, n2, n3]⟩ : Shape).Idx → EReal) (x : u.Idx → EReal)
    (hr : (⟨4, ![n0, n1, n2, n3]⟩ : Shape).ReducesTo [3] ⟨3, ![n0, n1, n2]⟩) (hu : 0 < u.numel) (b : Fin n0) (h : Fin n1) (q : Fin n2) :
    Host.reduce (FloatOps.maximumf (F := Ideal) (φ := FTy.f32)) S x hr hu (ix3 b h q)
      = Finset.univ.fold max (x (Shape.Idx.first hu)) fun k : Fin n3 => S (ix4 b h q k) :=
  (Host.reduce_eq_fold _ S x hr hu (ix3 b h q)).trans (Shape.ReducesTo.fold_fiber_r4_a3 hr (ix3 b h q) _ _ S)

/-- One row's maximum. -/
theorem maxArr_at (S : FVec Ideal S2x8x8192x8192 .f32) (b : Fin 2) (h : Fin 8) (q : Fin 8192) :
    maxArr S (ix3 b h q) = max ⊥ (Finset.univ.fold max ⊥ fun k => S (ix4 b h q k)) := by
  unfold maxArr
  rw [maximumf_apply, fold_last]
  have hx : constant (F := Ideal) S_ .f32 0xFF800000#32 (Shape.Idx.first h_S_) = (⊥ : EReal) := neg_inf
  rw [hx]
  generalize (Finset.univ.fold max (⊥ : EReal) fun k => S (ix4 b h q k)) = R
  exact congrArg (fun x : EReal => max x R) neg_inf

/-- One exponential. -/
theorem expArr_at (S : FVec Ideal S2x8x8192x8192 .f32) (b : Fin 2) (h : Fin 8) (q k : Fin 8192) :
    expArr S (ix4 b h q k) = Ideal.exp (S (ix4 b h q k) - max ⊥ (Finset.univ.fold max ⊥ fun k => S (ix4 b h q k))) := by
  rw [← maxArr_at]
  unfold expArr
  generalize maxArr S = M
  pointwise []

/-- One entry of the result. -/
theorem outArr_at (V : FVec Ideal S16384x1024 .f32) (P : FVec Ideal S2x8x8192x8192 .f32) (n : Fin 16384) (l : Fin 1024) :
    outArr V P (ix2 n l) = ∑ k : Fin 8192, V (ix2 ⟨n.val / 8192 * 8192 + k.val, by omega⟩ l) * Ideal.div (P (ix4 ⟨n.val / 8192, by omega⟩ ⟨l.val / 128, by omega⟩ ⟨n.val % 8192, by omega⟩ k)) (∑ k' : Fin 8192, P (ix4 ⟨n.val / 8192, by omega⟩ ⟨l.val / 128, by omega⟩ ⟨n.val % 8192, by omega⟩ k')) := by
  pointwise [outArr]

/-- One entry of the reference's result: the row's attention. -/
theorem res_at (Q K V : FVec Ideal S16384x1024 .f32) (C : FVec Ideal S16384x8 .f32) (n : Fin 16384) (l : Fin 1024) :
    outArr V (expArr (logArr Q K C)) (ix2 n l)
      = rowAt (fun k => lgAt Q K C ⟨n.val / 8192, by omega⟩ ⟨l.val / 128, by omega⟩ ⟨n.val % 8192, by omega⟩ k.val)
          (fun k => vlAt V ⟨n.val / 8192, by omega⟩ l k.val) := by
  rw [outArr_at]
  unfold rowAt
  refine Finset.sum_congr rfl fun k _ => ?_
  have hv : V (ix2 ⟨n.val / 8192 * 8192 + k.val, by omega⟩ l) = vlAt V ⟨n.val / 8192, by omega⟩ l k.val := by
    unfold vlAt
    rw [dif_pos k.isLt]
  rw [hv]
  simp only [expArr_at, logArr_at]

end Cert.AttnRefIdeal.Value
-- ==== Proof.AttnIdealRuns.lean ====
/-
  The attention body of `AttnIdeal`, path by path: what it leaves in its scratches and its output.
-/
module

public import proofs.«01_k».proof.Proof.Gen.AttnIdeal.Skeleton
public import proofs.«01_k».proof.Proof.Gen.AttnIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The query-tile table and the key-tile table, as the body is handed them. -/
abbrev tabQ : Memref sig .tc .smem S136 .i32 := Memref.whole main_c
abbrev tabK : Memref sig .tc .smem S136 .i32 := Memref.whole main_c_0
/-- The running maximum, the running sum and the running output. -/
abbrev scrM : Memref sig .tc .vmem S512x1 .f32 := Memref.whole cc0_scratch0
abbrev scrL : Memref sig .tc .vmem S512x1 .f32 := Memref.whole cc0_scratch1
abbrev scrA : Memref sig .tc .vmem S512x128 .f32 := Memref.whole cc0_scratch2
/-- One staging buffer of the output, to state its contents through. -/
abbrev stgO : View sig .tc .vmem S512x128 .bf16 := (Memref.whole cc0_stg5_0 : Memref sig .tc .vmem S512x128 .bf16).view

/-- The word the body reads from a table at grid point `i`. -/
abbrev word (M : Memref sig .tc .smem S136 .i32) (i : grid0.Coords) (T : Buf (Elt F) (M.view.loc ((0 : Dev nD) : Thread nD τ))) : BitVec 32 :=
  View.readAt (Elt F) M.view (Rect.unit (s := S136) (k0_off1 i) S1.size (k0_off1_inb i)).toLoadRect T (Shape.Idx.first (numel1_S1.symm ▸ Nat.one_pos))
/-- The key tile is the first. -/
abbrev isFirst (kw : BitVec 32) : Prop := Scalar.cmpi .ne (Scalar.extui (Scalar.cmpi .eq kw 0#32)) 0#32 = 1#1
/-- The key tile lies strictly before the query tile. -/
abbrev isBelow (qw kw : BitVec 32) : Prop := Scalar.cmpi .ne (Scalar.extui (Scalar.cmpi .slt kw qw)) 0#32 = 1#1
/-- The key tile is the query tile. -/
abbrev isDiag (qw kw : BitVec 32) : Prop := k0_cond3 qw kw = 1#1

set_option backward.proofsInPublic true in
set_option maxHeartbeats 8000000 in
/-- First key tile, on the diagonal: the scratches are reset, the tile is taken in under the causal mask, the output stored. -/
noncomputable def runFD (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (hf : isFirst (word (F := F) tabK i T1)) (hb : ¬ isBelow (word (F := F) tabQ i T0) (word (F := F) tabK i T1)) (hd : isDiag (word (F := F) tabQ i T0) (word (F := F) tabK i T1)) :
    Σ' (o : List (View.Piece (Elt F) S512x128 .bf16)) (om : Buf (Elt F) ((c : Thread nD τ).loc cc0_scratch0)) (ol : Buf (Elt F) ((c : Thread nD τ).loc cc0_scratch1)), { oa : Buf (Elt F) ((c : Thread nD τ).loc cc0_scratch2) //
      ∀ (xm : Buf (Elt F) ((c : Thread nD τ).loc cc0_scratch0)) (xl : Buf (Elt F) ((c : Thread nD τ).loc cc0_scratch1)) (xa : Buf (Elt F) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tabQ.view.loc (c : Thread nD τ) ↦{fullShare.right} T0)
          ∗ (tabK.view.loc (c : Thread nD τ) ↦{fullShare.right} T1)
          ∗ (∃ d, owns (c : Thread nD τ) arg10 fullShare d)
          ∗ (scrM.view.loc (c : Thread nD τ) ↦{fullShare} xm)
          ∗ (scrL.view.loc (c : Thread nD τ) ↦{fullShare} xl)
          ∗ (scrA.view.loc (c : Thread nD τ) ↦{fullShare} xa)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tabQ.view.loc (c : Thread nD τ) ↦{fullShare.right} T0)
              ∗ (tabK.view.loc (c : Thread nD τ) ↦{fullShare.right} T1)
              ∗ (∃ f, arg10.view.loc (c : Thread nD τ) ↦[arg10.view.set]{fullShare} arg10.view.writes (Elt F) f o)
              ∗ (scrM.view.loc (c : Thread nD τ) ↦{fullShare} om)
              ∗ (scrL.view.loc (c : Thread nD τ) ↦{fullShare} ol)
              ∗ (scrA.view.loc (c : Thread nD τ) ↦{fullShare} oa)) -∗ K ⟨⟩))
          ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K } :=
  ⟨_, _, _, _, fun (xm : Buf (Elt F) ((c : Thread nD τ).loc cc0_scratch0)) (xl : Buf (Elt F) ((c : Thread nD τ).loc cc0_scratch1)) (xa : Buf (Elt F) ((c : Thread nD τ).loc cc0_scratch2)) K => by
    unfold owns
    rw [cc0_fox_attention_prompt_eq_skeleton]; unfold cc0_fox_attention_prompt_skel
    iintro ⟨H0, H1, H2, H3, H4, HT0, HT1, ⟨%d5, %f5, -, HO⟩, HM, HL, HA, Hk⟩
    have hM : scrM.IsWhole := Memref.isWhole_whole _
    have hL : scrL.IsWhole := Memref.isWhole_whole _
    have hA : scrA.IsWhole := Memref.isWhole_whole _
    have hQ : tabQ.IsWhole := Memref.isWhole_whole _
    have hK : tabK.IsWhole := Memref.isWhole_whole _
    sl_exec! (disch := first | (guard_target = Scalar.cmpi _ _ _ = _; exact hf) | (guard_target = ¬(Scalar.cmpi _ _ _ = _); exact hb) | (guard_target = k0_cond3 _ _ = _; exact hd))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HM]; · iexact HM
    isplitl [HL]; · iexact HL
    iexact HA⟩

set_option backward.proofsInPublic true in
set_option maxHeartbeats 8000000 in
/-- First key tile, below the diagonal: the scratches are reset and the tile is taken in; the output buffer is kept. -/
noncomputable def runFB (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (hf : isFirst (word (F := F) tabK i T1)) (hb : isBelow (word (F := F) tabQ i T0) (word (F := F) tabK i T1)) (hd : ¬ isDiag (word (F := F) tabQ i T0) (word (F := F) tabK i T1)) :
    Σ' (om : Buf (Elt F) ((c : Thread nD τ).loc cc0_scratch0)) (ol : Buf (Elt F) ((c : Thread nD τ).loc cc0_scratch1)), { oa : Buf (Elt F) ((c : Thread nD τ).loc cc0_scratch2) //
      ∀ (y : S512x128.Idx → Elt F .bf16) (xm : Buf (Elt F) ((c : Thread nD τ).loc cc0_scratch0)) (xl : Buf (Elt F) ((c : Thread nD τ).loc cc0_scratch1)) (xa : Buf (Elt F) ((c : Thread nD τ).loc cc0_scratch2)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tabQ.view.loc (c : Thread nD τ) ↦{fullShare.right} T0)
          ∗ (tabK.view.loc (c : Thread nD τ) ↦{fullShare.right} T1)
          ∗ owns (c : Thread nD τ) arg10 fullShare y
          ∗ (scrM.view.loc (c : Thread nD τ) ↦{fullShare} xm)
          ∗ (scrL.view.loc (c : Thread nD τ) ↦{fullShare} xl)
          ∗ (scrA.view.loc (c : Thread nD τ) ↦{fullShare} xa)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tabQ.view.loc (c : Thread nD τ) ↦{fullShare.right} T0)
              ∗ (tabK.view.loc (c : Thread nD τ) ↦{fullShare.right} T1)
              ∗ owns (c : Thread nD τ) arg10 fullShare y
              ∗ (scrM.view.loc (c : Thread nD τ) ↦{fullShare} om)
              ∗ (scrL.view.loc (c : Thread nD τ) ↦{fullShare} ol)
              ∗ (scrA.view.loc (c : Thread nD τ) ↦{fullShare} oa)) -∗ K ⟨⟩))
          ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K } :=
  ⟨_, _, _, fun (y : S512x128.Idx → Elt F .bf16) (xm : Buf (Elt F) ((c : Thread nD τ).loc cc0_scratch0)) (xl : Buf (Elt F) ((c : Thread nD τ).loc cc0_scratch1)) (xa : Buf (Elt F) ((c : Thread nD τ).loc cc0_scratch2)) K => by
    unfold owns
    rw [cc0_fox_attention_prompt_eq_skeleton]; unfold cc0_fox_attention_prompt_skel
    iintro ⟨H0, H1, H2, H3, H4, HT0, HT1, ⟨%f5, %hf5, HO⟩, HM, HL, HA, Hk⟩
    obtain rfl := harg10.eq_unread hf5
    have hM : scrM.IsWhole := Memref.isWhole_whole _
    have hL : scrL.IsWhole := Memref.isWhole_whole _
    have hA : scrA.IsWhole := Memref.isWhole_whole _
    have hQ : tabQ.IsWhole := Memref.isWhole_whole _
    have hK : tabK.IsWhole := Memref.isWhole_whole _
    sl_exec! (disch := first | (guard_target = Scalar.cmpi _ _ _ = _; exact hf) | (guard_target = Scalar.cmpi _ _ _ = _; exact hb) | (guard_target = ¬(k0_cond3 _ _ = _); exact hd))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iexists _; isplitr; · ipureintro; exact harg10.read_unread _
      iexact HO
    isplitl [HM]; · iexact HM
    isplitl [HL]; · iexact HL
    iexact HA⟩

set_option backward.proofsInPublic true in
set_option maxHeartbeats 8000000 in
/-- A later key tile on the diagonal: taken in under the causal mask, the output stored. -/
noncomputable def runND (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (xm : Buf (Elt F) ((c : Thread nD τ).loc cc0_scratch0)) (xl : Buf (Elt F) ((c : Thread nD τ).loc cc0_scratch1)) (xa : Buf (Elt F) ((c : Thread nD τ).loc cc0_scratch2)) (hf : ¬ isFirst (word (F := F) tabK i T1)) (hb : ¬ isBelow (word (F := F) tabQ i T0) (word (F := F) tabK i T1)) (hd : isDiag (word (F := F) tabQ i T0) (word (F := F) tabK i T1)) :
    Σ' (o : List (View.Piece (Elt F) S512x128 .bf16)) (om : Buf (Elt F) ((c : Thread nD τ).loc cc0_scratch0)) (ol : Buf (Elt F) ((c : Thread nD τ).loc cc0_scratch1)), { oa : Buf (Elt F) ((c : Thread nD τ).loc cc0_scratch2) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tabQ.view.loc (c : Thread nD τ) ↦{fullShare.right} T0)
          ∗ (tabK.view.loc (c : Thread nD τ) ↦{fullShare.right} T1)
          ∗ (∃ d, owns (c : Thread nD τ) arg10 fullShare d)
          ∗ (scrM.view.loc (c : Thread nD τ) ↦{fullShare} xm)
          ∗ (scrL.view.loc (c : Thread nD τ) ↦{fullShare} xl)
          ∗ (scrA.view.loc (c : Thread nD τ) ↦{fullShare} xa)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tabQ.view.loc (c : Thread nD τ) ↦{fullShare.right} T0)
              ∗ (tabK.view.loc (c : Thread nD τ) ↦{fullShare.right} T1)
              ∗ (∃ f, arg10.view.loc (c : Thread nD τ) ↦[arg10.view.set]{fullShare} arg10.view.writes (Elt F) f o)
              ∗ (scrM.view.loc (c : Thread nD τ) ↦{fullShare} om)
              ∗ (scrL.view.loc (c : Thread nD τ) ↦{fullShare} ol)
              ∗ (scrA.view.loc (c : Thread nD τ) ↦{fullShare} oa)) -∗ K ⟨⟩))
          ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K } :=
  ⟨_, _, _, _, fun K => by
    unfold owns
    rw [cc0_fox_attention_prompt_eq_skeleton]; unfold cc0_fox_attention_prompt_skel
    iintro ⟨H0, H1, H2, H3, H4, HT0, HT1, ⟨%d5, %f5, -, HO⟩, HM, HL, HA, Hk⟩
    have hM : scrM.IsWhole := Memref.isWhole_whole _
    have hL : scrL.IsWhole := Memref.isWhole_whole _
    have hA : scrA.IsWhole := Memref.isWhole_whole _
    have hQ : tabQ.IsWhole := Memref.isWhole_whole _
    have hK : tabK.IsWhole := Memref.isWhole_whole _
    sl_exec! (disch := first | (guard_target = ¬(Scalar.cmpi _ _ _ = _); exact hf) | (guard_target = ¬(Scalar.cmpi _ _ _ = _); exact hb) | (guard_target = k0_cond3 _ _ = _; exact hd))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]; · iexists _; iexact HO
    isplitl [HM]; · iexact HM
    isplitl [HL]; · iexact HL
    iexact HA⟩

set_option backward.proofsInPublic true in
set_option maxHeartbeats 8000000 in
/-- A later key tile below the diagonal: taken in; the output buffer is kept. -/
noncomputable def runNB (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (xm : Buf (Elt F) ((c : Thread nD τ).loc cc0_scratch0)) (xl : Buf (Elt F) ((c : Thread nD τ).loc cc0_scratch1)) (xa : Buf (Elt F) ((c : Thread nD τ).loc cc0_scratch2)) (hf : ¬ isFirst (word (F := F) tabK i T1)) (hb : isBelow (word (F := F) tabQ i T0) (word (F := F) tabK i T1)) (hd : ¬ isDiag (word (F := F) tabQ i T0) (word (F := F) tabK i T1)) :
    Σ' (om : Buf (Elt F) ((c : Thread nD τ).loc cc0_scratch0)) (ol : Buf (Elt F) ((c : Thread nD τ).loc cc0_scratch1)), { oa : Buf (Elt F) ((c : Thread nD τ).loc cc0_scratch2) //
      ∀ (y : S512x128.Idx → Elt F .bf16) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tabQ.view.loc (c : Thread nD τ) ↦{fullShare.right} T0)
          ∗ (tabK.view.loc (c : Thread nD τ) ↦{fullShare.right} T1)
          ∗ owns (c : Thread nD τ) arg10 fullShare y
          ∗ (scrM.view.loc (c : Thread nD τ) ↦{fullShare} xm)
          ∗ (scrL.view.loc (c : Thread nD τ) ↦{fullShare} xl)
          ∗ (scrA.view.loc (c : Thread nD τ) ↦{fullShare} xa)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (arg9.view.loc (c : Thread nD τ) ↦[arg9.view.set]{fullShare} arg9.view.rep x4)
              ∗ (tabQ.view.loc (c : Thread nD τ) ↦{fullShare.right} T0)
              ∗ (tabK.view.loc (c : Thread nD τ) ↦{fullShare.right} T1)
              ∗ owns (c : Thread nD τ) arg10 fullShare y
              ∗ (scrM.view.loc (c : Thread nD τ) ↦{fullShare} om)
              ∗ (scrL.view.loc (c : Thread nD τ) ↦{fullShare} ol)
              ∗ (scrA.view.loc (c : Thread nD τ) ↦{fullShare} oa)) -∗ K ⟨⟩))
          ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K } :=
  ⟨_, _, _, fun (y : S512x128.Idx → Elt F .bf16) K => by
    unfold owns
    rw [cc0_fox_attention_prompt_eq_skeleton]; unfold cc0_fox_attention_prompt_skel
    iintro ⟨H0, H1, H2, H3, H4, HT0, HT1, ⟨%f5, %hf5, HO⟩, HM, HL, HA, Hk⟩
    obtain rfl := harg10.eq_unread hf5
    have hM : scrM.IsWhole := Memref.isWhole_whole _
    have hL : scrL.IsWhole := Memref.isWhole_whole _
    have hA : scrA.IsWhole := Memref.isWhole_whole _
    have hQ : tabQ.IsWhole := Memref.isWhole_whole _
    have hK : tabK.IsWhole := Memref.isWhole_whole _
    sl_exec! (disch := first | (guard_target = ¬(Scalar.cmpi _ _ _ = _); exact hf) | (guard_target = Scalar.cmpi _ _ _ = _; exact hb) | (guard_target = ¬(k0_cond3 _ _ = _); exact hd))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iexists _; isplitr; · ipureintro; exact harg10.read_unread _
      iexact HO
    isplitl [HM]; · iexact HM
    isplitl [HL]; · iexact HL
    iexact HA⟩

end Cert.AttnIdeal.Fox

end
-- ==== Proof.AttnIdealSteps.lean ====
/-
  The attention body of `AttnIdeal`, path by path, as a step on its running maximum, sum and output.
-/
module

public import proofs.«01_k».proof.Proof.AttnIdealRuns
public import Idealize.ShloMosaic.Lib.Pipeline.ValueKit.Acc
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The running maximum is held in the whole of its cell. -/
theorem wholeM : scrM.IsWhole := Memref.isWhole_whole _
/-- The running normaliser is held in the whole of its cell. -/
theorem wholeL : scrL.IsWhole := Memref.isWhole_whole _
/-- The running sum is held in the whole of its cell. -/
theorem wholeA : scrA.IsWhole := Memref.isWhole_whole _
/-- A scratch set to a vector reads back as it. -/
theorem readM (X : S512x1.Idx → Elt F .f32) : View.read (Elt F) (View.whole cc0_scratch0) (wholeM.unread X) = X := wholeM.read_unread X
/-- Reading back a normaliser just written. -/
theorem readL (X : S512x1.Idx → Elt F .f32) : View.read (Elt F) (View.whole cc0_scratch1) (wholeL.unread X) = X := wholeL.read_unread X
/-- Reading back a sum just written. -/
theorem readA (X : S512x128.Idx → Elt F .f32) : View.read (Elt F) (View.whole cc0_scratch2) (wholeA.unread X) = X := wholeA.read_unread X

/-- The state the scratches carry: running maximum, running sum, running output. -/
abbrev St (F : FTy → Type) [FloatOps F] := (S512x1.Idx → Elt F .f32) × (S512x1.Idx → Elt F .f32) × (S512x128.Idx → Elt F .f32)
/-- The state a row of key tiles begins with. -/
def stInit : St F := (k0_pay1, k0_pay2, k0_pay3)
/-- One key tile below the diagonal. -/
def stBelow (x0 x1 x2 : S512x128.Idx → Elt F .bf16) (x3 : S1x1x512x1.Idx → Elt F .f32) (x4 : S1x1x1x512.Idx → Elt F .f32) (s : St F) : St F :=
  (k0_pay5 (k0_pay10 x0 x1 x3 x4 s.1), k0_pay13 x0 x1 x3 x4 s.1 s.2.1, k0_pay4 (k0_pay14 x0 x1 x3 x4 s.1 s.2.2) (k0_pay15 x0 x1 x3 x4 s.1) x2)
/-- One key tile on the diagonal, under the causal mask. -/
def stDiag (x0 x1 x2 : S512x128.Idx → Elt F .bf16) (x3 : S1x1x512x1.Idx → Elt F .f32) (x4 : S1x1x1x512.Idx → Elt F .f32) (s : St F) : St F :=
  (k0_pay7 (k0_pay17 x0 x1 x3 x4 s.1), k0_pay20 x0 x1 x3 x4 s.1 s.2.1, k0_pay6 (k0_pay18 x0 x1 x3 x4 s.1) (k0_pay19 x0 x1 x3 x4 s.1) s.2.2 x2)
/-- The output block a state gives. -/
def stOut (s : St F) : S512x128.Idx → Elt F .bf16 := k0_pay8 s.2.2 s.2.1

/-- The scratches at a state. -/
abbrev heldAt (c : Dev nD) (s : St F) : sProp 𝕄 :=
  iprop((scrM.view.loc (c : Thread nD τ) ↦{fullShare} wholeM.unread s.1) ∗ (scrL.view.loc (c : Thread nD τ) ↦{fullShare} wholeL.unread s.2.1) ∗ (scrA.view.loc (c : Thread nD τ) ↦{fullShare} wholeA.unread s.2.2))

set_option maxHeartbeats 4000000 in
/-- The body's step on this path (first key tile, diagonal). -/
theorem wpFD (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (s : St F) (y : S512x128.Idx → Elt F .bf16) (hf : isFirst (word (F := F) tabK i T1)) (hb : ¬ isBelow (word (F := F) tabQ i T0) (word (F := F) tabK i T1)) (hd : isDiag (word (F := F) tabQ i T0) (word (F := F) tabK i T1)) (K : PUnit → sProp 𝕄) :
    iprop(owns (c : Thread nD τ) arg5 fullShare x0
      ∗ owns (c : Thread nD τ) arg6 fullShare x1
      ∗ owns (c : Thread nD τ) arg7 fullShare x2
      ∗ owns (c : Thread nD τ) arg8 fullShare x3
      ∗ owns (c : Thread nD τ) arg9 fullShare x4
      ∗ (tabQ.view.loc (c : Thread nD τ) ↦{fullShare.right} T0)
      ∗ (tabK.view.loc (c : Thread nD τ) ↦{fullShare.right} T1)
      ∗ owns (c : Thread nD τ) arg10 fullShare y
      ∗ heldAt c s
      ∗ (iprop(owns (c : Thread nD τ) arg5 fullShare x0
          ∗ owns (c : Thread nD τ) arg6 fullShare x1
          ∗ owns (c : Thread nD τ) arg7 fullShare x2
          ∗ owns (c : Thread nD τ) arg8 fullShare x3
          ∗ owns (c : Thread nD τ) arg9 fullShare x4
          ∗ (tabQ.view.loc (c : Thread nD τ) ↦{fullShare.right} T0)
          ∗ (tabK.view.loc (c : Thread nD τ) ↦{fullShare.right} T1)
          ∗ owns (c : Thread nD τ) arg10 fullShare (stOut (stDiag x0 x1 x2 x3 x4 stInit))
          ∗ heldAt c (stDiag x0 x1 x2 x3 x4 stInit)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K := by
  have e1 : (runFD c i arg5 harg5 arg6 harg6 arg7 harg7 arg8 harg8 arg9 harg9 arg10 harg10 T0 T1 x0 x1 x2 x3 x4 hf hb hd).2.1 = wholeM.unread (stDiag x0 x1 x2 x3 x4 stInit).1 := wholeM.eq_unread (by frame_out; simp only [stDiag, stBelow, stInit, View.read_rep, readM, readL, readA])
  have e2 : (runFD c i arg5 harg5 arg6 harg6 arg7 harg7 arg8 harg8 arg9 harg9 arg10 harg10 T0 T1 x0 x1 x2 x3 x4 hf hb hd).2.2.1 = wholeL.unread (stDiag x0 x1 x2 x3 x4 stInit).2.1 := wholeL.eq_unread (by frame_out; simp only [stDiag, stBelow, stInit, View.read_rep, readM, readL, readA])
  have e3 : (runFD c i arg5 harg5 arg6 harg6 arg7 harg7 arg8 harg8 arg9 harg9 arg10 harg10 T0 T1 x0 x1 x2 x3 x4 hf hb hd).2.2.2.1 = wholeA.unread (stDiag x0 x1 x2 x3 x4 stInit).2.2 := wholeA.eq_unread (by frame_out; simp only [stDiag, stBelow, stInit, View.read_rep, readM, readL, readA])
  have cov := View.cover_of_tiledL (runFD c i arg5 harg5 arg6 harg6 arg7 harg7 arg8 harg8 arg9 harg9 arg10 harg10 T0 T1 x0 x1 x2 x3 x4 hf hb hd).1 S512x128.size (by sl_kernel_rfl)
  have eo : stgO.read (Elt F) (stgO.writes (Elt F) stgO.junk (runFD c i arg5 harg5 arg6 harg6 arg7 harg7 arg8 harg8 arg9 harg9 arg10 harg10 T0 T1 x0 x1 x2 x3 x4 hf hb hd).1) = stOut (stDiag x0 x1 x2 x3 x4 stInit) := by
    unfold stOut; frame_out; simp only [stDiag, stBelow, stInit, View.read_rep, readM, readL, readA]
  obtain ⟨o, om, ol, oa, cov', eo', h1, h2, h3, run⟩ : ∃ (o : List (View.Piece (Elt F) S512x128 .bf16)) (om : Buf (Elt F) ((c : Thread nD τ).loc cc0_scratch0)) (ol : Buf (Elt F) ((c : Thread nD τ).loc cc0_scratch1)) (oa : Buf (Elt F) ((c : Thread nD τ).loc cc0_scratch2)), (∀ y, ∃ pc ∈ o, y ∈ pc.1.set) ∧ stgO.read (Elt F) (stgO.writes (Elt F) stgO.junk o) = stOut (stDiag x0 x1 x2 x3 x4 stInit) ∧ om = wholeM.unread (stDiag x0 x1 x2 x3 x4 stInit).1 ∧ ol = wholeL.unread (stDiag x0 x1 x2 x3 x4 stInit).2.1 ∧ oa = wholeA.unread (stDiag x0 x1 x2 x3 x4 stInit).2.2 ∧
    (∀ (xm : Buf (Elt F) ((c : Thread nD τ).loc cc0_scratch0)) (xl : Buf (Elt F) ((c : Thread nD τ).loc cc0_scratch1)) (xa : Buf (Elt F) ((c : Thread nD τ).loc cc0_scratch2)) (K : PUnit → sProp 𝕄),
      iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ (∃ d, owns (c : Thread nD τ) arg10 fullShare d) ∗ (scrM.view.loc (c : Thread nD τ) ↦{fullShare} xm) ∗ (scrL.view.loc (c : Thread nD τ) ↦{fullShare} xl) ∗ (scrA.view.loc (c : Thread nD τ) ↦{fullShare} xa) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ (∃ f, arg10.view.loc (c : Thread nD τ) ↦[arg10.view.set]{fullShare} arg10.view.writes (Elt F) f o) ∗ (scrM.view.loc (c : Thread nD τ) ↦{fullShare} om) ∗ (scrL.view.loc (c : Thread nD τ) ↦{fullShare} ol) ∗ (scrA.view.loc (c : Thread nD τ) ↦{fullShare} oa)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K) :=
    ⟨(runFD c i arg5 harg5 arg6 harg6 arg7 harg7 arg8 harg8 arg9 harg9 arg10 harg10 T0 T1 x0 x1 x2 x3 x4 hf hb hd).1, (runFD c i arg5 harg5 arg6 harg6 arg7 harg7 arg8 harg8 arg9 harg9 arg10 harg10 T0 T1 x0 x1 x2 x3 x4 hf hb hd).2.1, (runFD c i arg5 harg5 arg6 harg6 arg7 harg7 arg8 harg8 arg9 harg9 arg10 harg10 T0 T1 x0 x1 x2 x3 x4 hf hb hd).2.2.1, (runFD c i arg5 harg5 arg6 harg6 arg7 harg7 arg8 harg8 arg9 harg9 arg10 harg10 T0 T1 x0 x1 x2 x3 x4 hf hb hd).2.2.2.1, cov, eo, e1, e2, e3, (runFD c i arg5 harg5 arg6 harg6 arg7 harg7 arg8 harg8 arg9 harg9 arg10 harg10 T0 T1 x0 x1 x2 x3 x4 hf hb hd).2.2.2.2⟩
  clear e1 e2 e3 cov eo
  subst h1 h2 h3
  iintro ⟨H0, H1, H2, H3, H4, HT0, HT1, HO, ⟨HM, HL, HA⟩, Hk⟩
  iapply (run (wholeM.unread s.1) (wholeL.unread s.2.1) (wholeA.unread s.2.2) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HO]; · iexists y; iexact HO
  isplitl [HM]; · iexact HM
  isplitl [HL]; · iexact HL
  isplitl [HA]; · iexact HA
  iintro ⟨H0, H1, H2, H3, H4, HT0, HT1, ⟨%f, HO⟩, HM, HL, HA⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [HT0]; · iexact HT0
  isplitl [HT1]; · iexact HT1
  isplitl [HO]
  · unfold owns; iexists _; isplitr; swap
    · iexact HO
    · ipureintro; rw [← eo']; exact View.read_writes_of_cover _ _ _ _ _ cov'
  isplitl [HM]; · iexact HM
  isplitl [HL]; · iexact HL
  iexact HA

set_option maxHeartbeats 4000000 in
/-- The body's step on this path (first key tile, below the diagonal). -/
theorem wpFB (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (s : St F) (y : S512x128.Idx → Elt F .bf16) (hf : isFirst (word (F := F) tabK i T1)) (hb : isBelow (word (F := F) tabQ i T0) (word (F := F) tabK i T1)) (hd : ¬ isDiag (word (F := F) tabQ i T0) (word (F := F) tabK i T1)) (K : PUnit → sProp 𝕄) :
    iprop(owns (c : Thread nD τ) arg5 fullShare x0
      ∗ owns (c : Thread nD τ) arg6 fullShare x1
      ∗ owns (c : Thread nD τ) arg7 fullShare x2
      ∗ owns (c : Thread nD τ) arg8 fullShare x3
      ∗ owns (c : Thread nD τ) arg9 fullShare x4
      ∗ (tabQ.view.loc (c : Thread nD τ) ↦{fullShare.right} T0)
      ∗ (tabK.view.loc (c : Thread nD τ) ↦{fullShare.right} T1)
      ∗ owns (c : Thread nD τ) arg10 fullShare y
      ∗ heldAt c s
      ∗ (iprop(owns (c : Thread nD τ) arg5 fullShare x0
          ∗ owns (c : Thread nD τ) arg6 fullShare x1
          ∗ owns (c : Thread nD τ) arg7 fullShare x2
          ∗ owns (c : Thread nD τ) arg8 fullShare x3
          ∗ owns (c : Thread nD τ) arg9 fullShare x4
          ∗ (tabQ.view.loc (c : Thread nD τ) ↦{fullShare.right} T0)
          ∗ (tabK.view.loc (c : Thread nD τ) ↦{fullShare.right} T1)
          ∗ owns (c : Thread nD τ) arg10 fullShare y
          ∗ heldAt c (stBelow x0 x1 x2 x3 x4 stInit)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K := by
  have e1 : (runFB c i arg5 harg5 arg6 harg6 arg7 harg7 arg8 harg8 arg9 harg9 arg10 harg10 T0 T1 x0 x1 x2 x3 x4 hf hb hd).1 = wholeM.unread (stBelow x0 x1 x2 x3 x4 stInit).1 := wholeM.eq_unread (by frame_out; simp only [stDiag, stBelow, stInit, View.read_rep, readM, readL, readA])
  have e2 : (runFB c i arg5 harg5 arg6 harg6 arg7 harg7 arg8 harg8 arg9 harg9 arg10 harg10 T0 T1 x0 x1 x2 x3 x4 hf hb hd).2.1 = wholeL.unread (stBelow x0 x1 x2 x3 x4 stInit).2.1 := wholeL.eq_unread (by frame_out; simp only [stDiag, stBelow, stInit, View.read_rep, readM, readL, readA])
  have e3 : (runFB c i arg5 harg5 arg6 harg6 arg7 harg7 arg8 harg8 arg9 harg9 arg10 harg10 T0 T1 x0 x1 x2 x3 x4 hf hb hd).2.2.1 = wholeA.unread (stBelow x0 x1 x2 x3 x4 stInit).2.2 := wholeA.eq_unread (by frame_out; simp only [stDiag, stBelow, stInit, View.read_rep, readM, readL, readA])
  obtain ⟨om, ol, oa, h1, h2, h3, run⟩ : ∃ (om : Buf (Elt F) ((c : Thread nD τ).loc cc0_scratch0)) (ol : Buf (Elt F) ((c : Thread nD τ).loc cc0_scratch1)) (oa : Buf (Elt F) ((c : Thread nD τ).loc cc0_scratch2)), om = wholeM.unread (stBelow x0 x1 x2 x3 x4 stInit).1 ∧ ol = wholeL.unread (stBelow x0 x1 x2 x3 x4 stInit).2.1 ∧ oa = wholeA.unread (stBelow x0 x1 x2 x3 x4 stInit).2.2 ∧
    (∀ (y : S512x128.Idx → Elt F .bf16) (xm : Buf (Elt F) ((c : Thread nD τ).loc cc0_scratch0)) (xl : Buf (Elt F) ((c : Thread nD τ).loc cc0_scratch1)) (xa : Buf (Elt F) ((c : Thread nD τ).loc cc0_scratch2)) (K : PUnit → sProp 𝕄),
      iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ owns (c : Thread nD τ) arg10 fullShare y ∗ (scrM.view.loc (c : Thread nD τ) ↦{fullShare} xm) ∗ (scrL.view.loc (c : Thread nD τ) ↦{fullShare} xl) ∗ (scrA.view.loc (c : Thread nD τ) ↦{fullShare} xa) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ owns (c : Thread nD τ) arg10 fullShare y ∗ (scrM.view.loc (c : Thread nD τ) ↦{fullShare} om) ∗ (scrL.view.loc (c : Thread nD τ) ↦{fullShare} ol) ∗ (scrA.view.loc (c : Thread nD τ) ↦{fullShare} oa)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K) :=
    ⟨(runFB c i arg5 harg5 arg6 harg6 arg7 harg7 arg8 harg8 arg9 harg9 arg10 harg10 T0 T1 x0 x1 x2 x3 x4 hf hb hd).1, (runFB c i arg5 harg5 arg6 harg6 arg7 harg7 arg8 harg8 arg9 harg9 arg10 harg10 T0 T1 x0 x1 x2 x3 x4 hf hb hd).2.1, (runFB c i arg5 harg5 arg6 harg6 arg7 harg7 arg8 harg8 arg9 harg9 arg10 harg10 T0 T1 x0 x1 x2 x3 x4 hf hb hd).2.2.1, e1, e2, e3, (runFB c i arg5 harg5 arg6 harg6 arg7 harg7 arg8 harg8 arg9 harg9 arg10 harg10 T0 T1 x0 x1 x2 x3 x4 hf hb hd).2.2.2⟩
  clear e1 e2 e3
  subst h1 h2 h3
  iintro ⟨H0, H1, H2, H3, H4, HT0, HT1, HO, ⟨HM, HL, HA⟩, Hk⟩
  iapply (run y (wholeM.unread s.1) (wholeL.unread s.2.1) (wholeA.unread s.2.2) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HO]; · iexact HO
  isplitl [HM]; · iexact HM
  isplitl [HL]; · iexact HL
  isplitl [HA]; · iexact HA
  iintro ⟨H0, H1, H2, H3, H4, HT0, HT1, HO, HM, HL, HA⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [HT0]; · iexact HT0
  isplitl [HT1]; · iexact HT1
  isplitl [HO]; · iexact HO
  isplitl [HM]; · iexact HM
  isplitl [HL]; · iexact HL
  iexact HA

set_option maxHeartbeats 4000000 in
/-- The body's step on this path (later key tile, diagonal). -/
theorem wpND (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (s : St F) (y : S512x128.Idx → Elt F .bf16) (hf : ¬ isFirst (word (F := F) tabK i T1)) (hb : ¬ isBelow (word (F := F) tabQ i T0) (word (F := F) tabK i T1)) (hd : isDiag (word (F := F) tabQ i T0) (word (F := F) tabK i T1)) (K : PUnit → sProp 𝕄) :
    iprop(owns (c : Thread nD τ) arg5 fullShare x0
      ∗ owns (c : Thread nD τ) arg6 fullShare x1
      ∗ owns (c : Thread nD τ) arg7 fullShare x2
      ∗ owns (c : Thread nD τ) arg8 fullShare x3
      ∗ owns (c : Thread nD τ) arg9 fullShare x4
      ∗ (tabQ.view.loc (c : Thread nD τ) ↦{fullShare.right} T0)
      ∗ (tabK.view.loc (c : Thread nD τ) ↦{fullShare.right} T1)
      ∗ owns (c : Thread nD τ) arg10 fullShare y
      ∗ heldAt c s
      ∗ (iprop(owns (c : Thread nD τ) arg5 fullShare x0
          ∗ owns (c : Thread nD τ) arg6 fullShare x1
          ∗ owns (c : Thread nD τ) arg7 fullShare x2
          ∗ owns (c : Thread nD τ) arg8 fullShare x3
          ∗ owns (c : Thread nD τ) arg9 fullShare x4
          ∗ (tabQ.view.loc (c : Thread nD τ) ↦{fullShare.right} T0)
          ∗ (tabK.view.loc (c : Thread nD τ) ↦{fullShare.right} T1)
          ∗ owns (c : Thread nD τ) arg10 fullShare (stOut (stDiag x0 x1 x2 x3 x4 s))
          ∗ heldAt c (stDiag x0 x1 x2 x3 x4 s)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K := by
  have e1 : (runND c i arg5 harg5 arg6 harg6 arg7 harg7 arg8 harg8 arg9 harg9 arg10 harg10 T0 T1 x0 x1 x2 x3 x4 (wholeM.unread s.1) (wholeL.unread s.2.1) (wholeA.unread s.2.2) hf hb hd).2.1 = wholeM.unread (stDiag x0 x1 x2 x3 x4 s).1 := wholeM.eq_unread (by frame_out; simp only [stDiag, stBelow, stInit, View.read_rep, readM, readL, readA])
  have e2 : (runND c i arg5 harg5 arg6 harg6 arg7 harg7 arg8 harg8 arg9 harg9 arg10 harg10 T0 T1 x0 x1 x2 x3 x4 (wholeM.unread s.1) (wholeL.unread s.2.1) (wholeA.unread s.2.2) hf hb hd).2.2.1 = wholeL.unread (stDiag x0 x1 x2 x3 x4 s).2.1 := wholeL.eq_unread (by frame_out; simp only [stDiag, stBelow, stInit, View.read_rep, readM, readL, readA])
  have e3 : (runND c i arg5 harg5 arg6 harg6 arg7 harg7 arg8 harg8 arg9 harg9 arg10 harg10 T0 T1 x0 x1 x2 x3 x4 (wholeM.unread s.1) (wholeL.unread s.2.1) (wholeA.unread s.2.2) hf hb hd).2.2.2.1 = wholeA.unread (stDiag x0 x1 x2 x3 x4 s).2.2 := wholeA.eq_unread (by frame_out; simp only [stDiag, stBelow, stInit, View.read_rep, readM, readL, readA])
  have cov := View.cover_of_tiledL (runND c i arg5 harg5 arg6 harg6 arg7 harg7 arg8 harg8 arg9 harg9 arg10 harg10 T0 T1 x0 x1 x2 x3 x4 (wholeM.unread s.1) (wholeL.unread s.2.1) (wholeA.unread s.2.2) hf hb hd).1 S512x128.size (by sl_kernel_rfl)
  have eo : stgO.read (Elt F) (stgO.writes (Elt F) stgO.junk (runND c i arg5 harg5 arg6 harg6 arg7 harg7 arg8 harg8 arg9 harg9 arg10 harg10 T0 T1 x0 x1 x2 x3 x4 (wholeM.unread s.1) (wholeL.unread s.2.1) (wholeA.unread s.2.2) hf hb hd).1) = stOut (stDiag x0 x1 x2 x3 x4 s) := by
    unfold stOut; frame_out; simp only [stDiag, stBelow, stInit, View.read_rep, readM, readL, readA]
  obtain ⟨o, om, ol, oa, cov', eo', h1, h2, h3, run⟩ : ∃ (o : List (View.Piece (Elt F) S512x128 .bf16)) (om : Buf (Elt F) ((c : Thread nD τ).loc cc0_scratch0)) (ol : Buf (Elt F) ((c : Thread nD τ).loc cc0_scratch1)) (oa : Buf (Elt F) ((c : Thread nD τ).loc cc0_scratch2)), (∀ y, ∃ pc ∈ o, y ∈ pc.1.set) ∧ stgO.read (Elt F) (stgO.writes (Elt F) stgO.junk o) = stOut (stDiag x0 x1 x2 x3 x4 s) ∧ om = wholeM.unread (stDiag x0 x1 x2 x3 x4 s).1 ∧ ol = wholeL.unread (stDiag x0 x1 x2 x3 x4 s).2.1 ∧ oa = wholeA.unread (stDiag x0 x1 x2 x3 x4 s).2.2 ∧
    (∀ (K : PUnit → sProp 𝕄),
      iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ (∃ d, owns (c : Thread nD τ) arg10 fullShare d) ∗ (scrM.view.loc (c : Thread nD τ) ↦{fullShare} wholeM.unread s.1) ∗ (scrL.view.loc (c : Thread nD τ) ↦{fullShare} wholeL.unread s.2.1) ∗ (scrA.view.loc (c : Thread nD τ) ↦{fullShare} wholeA.unread s.2.2) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ (∃ f, arg10.view.loc (c : Thread nD τ) ↦[arg10.view.set]{fullShare} arg10.view.writes (Elt F) f o) ∗ (scrM.view.loc (c : Thread nD τ) ↦{fullShare} om) ∗ (scrL.view.loc (c : Thread nD τ) ↦{fullShare} ol) ∗ (scrA.view.loc (c : Thread nD τ) ↦{fullShare} oa)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K) :=
    ⟨(runND c i arg5 harg5 arg6 harg6 arg7 harg7 arg8 harg8 arg9 harg9 arg10 harg10 T0 T1 x0 x1 x2 x3 x4 (wholeM.unread s.1) (wholeL.unread s.2.1) (wholeA.unread s.2.2) hf hb hd).1, (runND c i arg5 harg5 arg6 harg6 arg7 harg7 arg8 harg8 arg9 harg9 arg10 harg10 T0 T1 x0 x1 x2 x3 x4 (wholeM.unread s.1) (wholeL.unread s.2.1) (wholeA.unread s.2.2) hf hb hd).2.1, (runND c i arg5 harg5 arg6 harg6 arg7 harg7 arg8 harg8 arg9 harg9 arg10 harg10 T0 T1 x0 x1 x2 x3 x4 (wholeM.unread s.1) (wholeL.unread s.2.1) (wholeA.unread s.2.2) hf hb hd).2.2.1, (runND c i arg5 harg5 arg6 harg6 arg7 harg7 arg8 harg8 arg9 harg9 arg10 harg10 T0 T1 x0 x1 x2 x3 x4 (wholeM.unread s.1) (wholeL.unread s.2.1) (wholeA.unread s.2.2) hf hb hd).2.2.2.1, cov, eo, e1, e2, e3, (runND c i arg5 harg5 arg6 harg6 arg7 harg7 arg8 harg8 arg9 harg9 arg10 harg10 T0 T1 x0 x1 x2 x3 x4 (wholeM.unread s.1) (wholeL.unread s.2.1) (wholeA.unread s.2.2) hf hb hd).2.2.2.2⟩
  clear e1 e2 e3 cov eo
  subst h1 h2 h3
  iintro ⟨H0, H1, H2, H3, H4, HT0, HT1, HO, ⟨HM, HL, HA⟩, Hk⟩
  iapply (run _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HO]; · iexists y; iexact HO
  isplitl [HM]; · iexact HM
  isplitl [HL]; · iexact HL
  isplitl [HA]; · iexact HA
  iintro ⟨H0, H1, H2, H3, H4, HT0, HT1, ⟨%f, HO⟩, HM, HL, HA⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [HT0]; · iexact HT0
  isplitl [HT1]; · iexact HT1
  isplitl [HO]
  · unfold owns; iexists _; isplitr; swap
    · iexact HO
    · ipureintro; rw [← eo']; exact View.read_writes_of_cover _ _ _ _ _ cov'
  isplitl [HM]; · iexact HM
  isplitl [HL]; · iexact HL
  iexact HA

set_option maxHeartbeats 4000000 in
/-- The body's step on this path (later key tile, below the diagonal). -/
theorem wpNB (c : Dev nD) (i : grid0.Coords) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S1x1x512x1 .f32) (harg8 : arg8.IsWhole) (arg9 : Memref sig .tc .vmem S1x1x1x512 .f32) (harg9 : arg9.IsWhole) (arg10 : Memref sig .tc .vmem S512x128 .bf16) (harg10 : arg10.IsWhole) (T0 T1 : S136.Idx → Elt F .i32)
    (x0 x1 x2 : S512x128.Idx → Elt F .bf16) (x3 : S1x1x512x1.Idx → Elt F .f32) (x4 : S1x1x1x512.Idx → Elt F .f32) (s : St F) (y : S512x128.Idx → Elt F .bf16) (hf : ¬ isFirst (word (F := F) tabK i T1)) (hb : isBelow (word (F := F) tabQ i T0) (word (F := F) tabK i T1)) (hd : ¬ isDiag (word (F := F) tabQ i T0) (word (F := F) tabK i T1)) (K : PUnit → sProp 𝕄) :
    iprop(owns (c : Thread nD τ) arg5 fullShare x0
      ∗ owns (c : Thread nD τ) arg6 fullShare x1
      ∗ owns (c : Thread nD τ) arg7 fullShare x2
      ∗ owns (c : Thread nD τ) arg8 fullShare x3
      ∗ owns (c : Thread nD τ) arg9 fullShare x4
      ∗ (tabQ.view.loc (c : Thread nD τ) ↦{fullShare.right} T0)
      ∗ (tabK.view.loc (c : Thread nD τ) ↦{fullShare.right} T1)
      ∗ owns (c : Thread nD τ) arg10 fullShare y
      ∗ heldAt c s
      ∗ (iprop(owns (c : Thread nD τ) arg5 fullShare x0
          ∗ owns (c : Thread nD τ) arg6 fullShare x1
          ∗ owns (c : Thread nD τ) arg7 fullShare x2
          ∗ owns (c : Thread nD τ) arg8 fullShare x3
          ∗ owns (c : Thread nD τ) arg9 fullShare x4
          ∗ (tabQ.view.loc (c : Thread nD τ) ↦{fullShare.right} T0)
          ∗ (tabK.view.loc (c : Thread nD τ) ↦{fullShare.right} T1)
          ∗ owns (c : Thread nD τ) arg10 fullShare y
          ∗ heldAt c (stBelow x0 x1 x2 x3 x4 s)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K := by
  have e1 : (runNB c i arg5 harg5 arg6 harg6 arg7 harg7 arg8 harg8 arg9 harg9 arg10 harg10 T0 T1 x0 x1 x2 x3 x4 (wholeM.unread s.1) (wholeL.unread s.2.1) (wholeA.unread s.2.2) hf hb hd).1 = wholeM.unread (stBelow x0 x1 x2 x3 x4 s).1 := wholeM.eq_unread (by frame_out; simp only [stDiag, stBelow, stInit, View.read_rep, readM, readL, readA])
  have e2 : (runNB c i arg5 harg5 arg6 harg6 arg7 harg7 arg8 harg8 arg9 harg9 arg10 harg10 T0 T1 x0 x1 x2 x3 x4 (wholeM.unread s.1) (wholeL.unread s.2.1) (wholeA.unread s.2.2) hf hb hd).2.1 = wholeL.unread (stBelow x0 x1 x2 x3 x4 s).2.1 := wholeL.eq_unread (by frame_out; simp only [stDiag, stBelow, stInit, View.read_rep, readM, readL, readA])
  have e3 : (runNB c i arg5 harg5 arg6 harg6 arg7 harg7 arg8 harg8 arg9 harg9 arg10 harg10 T0 T1 x0 x1 x2 x3 x4 (wholeM.unread s.1) (wholeL.unread s.2.1) (wholeA.unread s.2.2) hf hb hd).2.2.1 = wholeA.unread (stBelow x0 x1 x2 x3 x4 s).2.2 := wholeA.eq_unread (by frame_out; simp only [stDiag, stBelow, stInit, View.read_rep, readM, readL, readA])
  obtain ⟨om, ol, oa, h1, h2, h3, run⟩ : ∃ (om : Buf (Elt F) ((c : Thread nD τ).loc cc0_scratch0)) (ol : Buf (Elt F) ((c : Thread nD τ).loc cc0_scratch1)) (oa : Buf (Elt F) ((c : Thread nD τ).loc cc0_scratch2)), om = wholeM.unread (stBelow x0 x1 x2 x3 x4 s).1 ∧ ol = wholeL.unread (stBelow x0 x1 x2 x3 x4 s).2.1 ∧ oa = wholeA.unread (stBelow x0 x1 x2 x3 x4 s).2.2 ∧
    (∀ (y : S512x128.Idx → Elt F .bf16) (K : PUnit → sProp 𝕄),
      iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ owns (c : Thread nD τ) arg10 fullShare y ∗ (scrM.view.loc (c : Thread nD τ) ↦{fullShare} wholeM.unread s.1) ∗ (scrL.view.loc (c : Thread nD τ) ↦{fullShare} wholeL.unread s.2.1) ∗ (scrA.view.loc (c : Thread nD τ) ↦{fullShare} wholeA.unread s.2.2) ∗ (iprop((arg5.view.loc (c : Thread nD τ) ↦[arg5.view.set]{fullShare} arg5.view.rep x0) ∗ (arg6.view.loc (c : Thread nD τ) ↦[arg6.view.set]{fullShare} arg6.view.rep x1) ∗ (arg7.view.loc (c : Thread nD τ) ↦[arg7.view.set]{fullShare} arg7.view.rep x2) ∗ (arg8.view.loc (c : Thread nD τ) ↦[arg8.view.set]{fullShare} arg8.view.rep x3) ∗ (arg9.view.loc (c : Thread nD τ) ↦[arg9.view.set]{fullShare} arg9.view.rep x4) ∗ (tabQ.view.loc (c : Thread nD τ) ↦{fullShare.right} T0) ∗ (tabK.view.loc (c : Thread nD τ) ↦{fullShare.right} T1) ∗ owns (c : Thread nD τ) arg10 fullShare y ∗ (scrM.view.loc (c : Thread nD τ) ↦{fullShare} om) ∗ (scrL.view.loc (c : Thread nD τ) ↦{fullShare} ol) ∗ (scrA.view.loc (c : Thread nD τ) ↦{fullShare} oa)) -∗ K ⟨⟩))
      ⊢ wp frame (wpE (defs₀ (F := F)) Variants.none c none) Set.univ (cc0_fox_attention_prompt i tabQ (Memref.isWhole_whole _) tabK (Memref.isWhole_whole _) arg5 harg5 arg6 harg6 arg7 harg7 arg8 harg8 arg9 harg9 arg10 harg10 scrM (Memref.isWhole_whole _) scrL (Memref.isWhole_whole _) scrA (Memref.isWhole_whole _)) K) :=
    ⟨(runNB c i arg5 harg5 arg6 harg6 arg7 harg7 arg8 harg8 arg9 harg9 arg10 harg10 T0 T1 x0 x1 x2 x3 x4 (wholeM.unread s.1) (wholeL.unread s.2.1) (wholeA.unread s.2.2) hf hb hd).1, (runNB c i arg5 harg5 arg6 harg6 arg7 harg7 arg8 harg8 arg9 harg9 arg10 harg10 T0 T1 x0 x1 x2 x3 x4 (wholeM.unread s.1) (wholeL.unread s.2.1) (wholeA.unread s.2.2) hf hb hd).2.1, (runNB c i arg5 harg5 arg6 harg6 arg7 harg7 arg8 harg8 arg9 harg9 arg10 harg10 T0 T1 x0 x1 x2 x3 x4 (wholeM.unread s.1) (wholeL.unread s.2.1) (wholeA.unread s.2.2) hf hb hd).2.2.1, e1, e2, e3, (runNB c i arg5 harg5 arg6 harg6 arg7 harg7 arg8 harg8 arg9 harg9 arg10 harg10 T0 T1 x0 x1 x2 x3 x4 (wholeM.unread s.1) (wholeL.unread s.2.1) (wholeA.unread s.2.2) hf hb hd).2.2.2⟩
  clear e1 e2 e3
  subst h1 h2 h3
  iintro ⟨H0, H1, H2, H3, H4, HT0, HT1, HO, ⟨HM, HL, HA⟩, Hk⟩
  iapply (run y _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [HO]; · iexact HO
  isplitl [HM]; · iexact HM
  isplitl [HL]; · iexact HL
  isplitl [HA]; · iexact HA
  iintro ⟨H0, H1, H2, H3, H4, HT0, HT1, HO, HM, HL, HA⟩
  iapply Hk
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [HT0]; · iexact HT0
  isplitl [HT1]; · iexact HT1
  isplitl [HO]; · iexact HO
  isplitl [HM]; · iexact HM
  isplitl [HL]; · iexact HL
  iexact HA

end Cert.AttnIdeal.Fox

end
-- ==== Proof.AttnIdealTile.lean ====
/-
  One tile's step of the attention's running softmax, read at one row.
-/
module

public import proofs.«01_k».proof.Proof.AttnSpec
public import proofs.«01_k».proof.Proof.AttnIdealSteps

@[expose] public section

set_option maxRecDepth 16384

noncomputable section

open Idealize.ShloMosaic Idealize.ShloMosaic.TcCoe Idealize.SL.Sem

namespace Cert.AttnIdeal.Fox

open Cert.AttnIdeal Cert.AttnIdeal.Gen Cert.AttnSpec

/-- The running maximum after a tile of logits `S`. -/
def updM (S : FVec Ideal S512x512 .f32) (x : FVec Ideal S512x1 .f32) : FVec Ideal S512x1 .f32 :=
  maximumf x (shapeCast S512x1 (multiReduction .maximumf [1] S512 S 0xFF800000#32 reduces_S512x512_S512 (.inl rfl) rfl) shapeCasts_S512_S512x1)

/-- What the state's old sums are scaled by. -/
def updE (S : FVec Ideal S512x512 .f32) (x : FVec Ideal S512x1 .f32) : FVec Ideal S512x1 .f32 := exp (subf x (updM S x))

/-- The tile's exponentials at the new maximum. -/
def updP (S : FVec Ideal S512x512 .f32) (x : FVec Ideal S512x1 .f32) : FVec Ideal S512x512 .f32 :=
  exp (subf S (broadcastTo S512x512 (updM S x) broadcasts_S512x1_S512x512))

/-- The running normaliser after a tile. -/
def updL (S : FVec Ideal S512x512 .f32) (x l : FVec Ideal S512x1 .f32) : FVec Ideal S512x1 .f32 :=
  addf (mulf (updE S x) l) (shapeCast S512x1 (multiReduction .add [1] S512 (updP S x) 0x00000000#32 reduces_S512x512_S512 (.inl rfl) rfl) shapeCasts_S512_S512x1)

/-- The running weighted sum after a tile. -/
def updA (S : FVec Ideal S512x512 .f32) (x : FVec Ideal S512x1 .f32) (a : FVec Ideal S512x128 .f32) (v : FVec Ideal S512x128 .bf16) : FVec Ideal S512x128 .f32 :=
  addf (mulf (broadcastTo S512x128 (updE S x) broadcasts_S512x1_S512x128) a)
    (matmul dot_S512x512_S512x128_S512x128_1_0_0_1_n_n none (truncf .bf16 (updP S x) bitsLt_bf16_f32) (shapeCast S512x128 v shapeCasts_S512x128_S512x128) (constant S512x128 .f32 0x00000000#32))

/-- The state after a tile. -/
def upd (S : FVec Ideal S512x512 .f32) (v : FVec Ideal S512x128 .bf16) (s : St Ideal) : St Ideal :=
  (shapeCast S512x1 (updM S s.1) shapeCasts_S512x1_S512x1, shapeCast S512x1 (updL S s.1 s.2.1) shapeCasts_S512x1_S512x1,
    shapeCast S512x128 (updA S s.1 s.2.2 v) shapeCasts_S512x128_S512x128)

/-- A step below the diagonal, its sums spelled out. -/
theorem stBelow_eq (q k v : Vec Ideal S512x128 .bf16) (fq : Vec Ideal S1x1x512x1 .f32) (fk : Vec Ideal S1x1x1x512 .f32) (s : St Ideal) :
    stBelow q k v fq fk s = upd (k0_pay9 q k fq fk) v s := rfl
/-- A step on the diagonal, its sums spelled out. -/
theorem stDiag_eq (q k v : Vec Ideal S512x128 .bf16) (fq : Vec Ideal S1x1x512x1 .f32) (fk : Vec Ideal S1x1x1x512 .f32) (s : St Ideal) :
    stDiag q k v fq fk s = upd (k0_pay16 q k fq fk) v s := rfl

/-- A maximum over the second of two axes, from minus infinity: the fold of `max`. -/
theorem max_row {n0 n1 : ℕ} (S : FVec Ideal ⟨2, ![n0, n1]⟩ .f32) (h : (⟨2, ![n0, n1]⟩ : Shape).Reduces [1] ⟨1, ![n0]⟩) (h1) (h2) (r : Fin n0) :
    multiReduction .maximumf [1] ⟨1, ![n0]⟩ S 0xFF800000#32 h h1 h2 (ix1 r) = (Finset.univ.fold max (⊥ : EReal) fun k : Fin n1 => S (ix2 r k)) := by
  rw [multiReduction_maximumf_eq_fold]
  refine (Shape.Reduces.fold_fiber_r2_a1 h (ix1 r) _ _ S).trans ?_
  exact congrArg (fun x : EReal => Finset.univ.fold max x fun k : Fin n1 => S (ix2 r k)) neg_inf

/-- The running maximum of one row. -/
theorem updM_at (S : FVec Ideal S512x512 .f32) (x : FVec Ideal S512x1 .f32) (r : Fin 512) :
    updM S x (ix2 r 0) = max (x (ix2 r 0)) (Finset.univ.fold max (⊥ : EReal) fun k : Fin 512 => S (ix2 r k)) := by
  unfold updM
  rw [← max_row S reduces_S512x512_S512 (.inl rfl) rfl r]
  generalize multiReduction .maximumf [1] S512 S 0xFF800000#32 reduces_S512x512_S512 (.inl rfl) rfl = R
  pointwise []

/-- The factor the sums are rescaled by, one row. -/
theorem updE_at (S : FVec Ideal S512x512 .f32) (x : FVec Ideal S512x1 .f32) (r : Fin 512) :
    updE S x (ix2 r 0) = Ideal.exp (x (ix2 r 0) - updM S x (ix2 r 0)) := by
  unfold updE
  generalize updM S x = M
  pointwise []

/-- The exponentials of a tile, one entry. -/
theorem updP_at (S : FVec Ideal S512x512 .f32) (x : FVec Ideal S512x1 .f32) (r k : Fin 512) :
    updP S x (ix2 r k) = Ideal.exp (S (ix2 r k) - updM S x (ix2 r 0)) := by
  unfold updP
  generalize updM S x = M
  pointwise []

/-- The running normaliser of one row. -/
theorem updL_at (S : FVec Ideal S512x512 .f32) (x l : FVec Ideal S512x1 .f32) (r : Fin 512) :
    updL S x l (ix2 r 0) = Ideal.exp (x (ix2 r 0) - updM S x (ix2 r 0)) * l (ix2 r 0) + ∑ k : Fin 512, Ideal.exp (S (ix2 r k) - updM S x (ix2 r 0)) := by
  rw [← updE_at]
  simp only [← updP_at]
  unfold updL
  generalize updE S x = E
  generalize updP S x = P
  pointwise []

/-- The running weighted sum of one row's lane. -/
theorem updA_at (S : FVec Ideal S512x512 .f32) (x : FVec Ideal S512x1 .f32) (a : FVec Ideal S512x128 .f32) (v : FVec Ideal S512x128 .bf16) (r : Fin 512) (d : Fin 128) :
    updA S x a v (ix2 r d) = Ideal.exp (x (ix2 r 0) - updM S x (ix2 r 0)) * a (ix2 r d) + ∑ k : Fin 512, Ideal.exp (S (ix2 r k) - updM S x (ix2 r 0)) * v (ix2 k d) := by
  rw [← updE_at]
  simp only [← updP_at]
  unfold updA
  generalize updE S x = E
  generalize updP S x = P
  pointwise []

/-- The logits of a tile below the diagonal. -/
theorem below_at (q k : Vec Ideal S512x128 .bf16) (fq : Vec Ideal S1x1x512x1 .f32) (fk : Vec Ideal S1x1x1x512 .f32) (r j : Fin 512) :
    k0_pay9 q k fq fk (ix2 r j) = ∑ d : Fin 128, q (ix2 r d) * k (ix2 j d) + fq (ix4 0 0 r 0) - fk (ix4 0 0 0 j) := by
  pointwise [k0_pay9]

/-- The logits of a tile on the diagonal. -/
theorem diag_at (q k : Vec Ideal S512x128 .bf16) (fq : Vec Ideal S1x1x512x1 .f32) (fk : Vec Ideal S1x1x1x512 .f32) (r j : Fin 512) :
    k0_pay16 q k fq fk (ix2 r j) = if j.val ≤ r.val then ∑ d : Fin 128, q (ix2 r d) * k (ix2 j d) + fq (ix4 0 0 r 0) - fk (ix4 0 0 0 j) else ⊥ := by
  have h : k0_pay16 q k fq fk (ix2 r j) = Scalar.select (IntOp.cmpi CmpIPredicate.sge (BitVec.ofNat 32 r.val) (BitVec.ofNat 32 j.val))
      (∑ d : Fin 128, q (ix2 r d) * k (ix2 j d) + fq (ix4 0 0 r 0) - fk (ix4 0 0 0 j)) (Ideal.ofBits FTy.f32 0xFF800000#32) := by
    pointwise [k0_pay16]
  rw [h, mask _ _ (by omega) (by omega), neg_inf]

/-- The reset: no logit seen. -/
theorem init_m (r : Fin 512) : (stInit : St Ideal).1 (ix2 r 0) = (⊥ : EReal) := by
  have h : (k0_pay1 (F := Ideal)) (ix2 r 0) = Ideal.ofBits FTy.f32 0xFF800000#32 := by
    pointwise [k0_pay1]
  exact h.trans neg_inf
/-- The normaliser starts at zero. -/
theorem init_l (r : Fin 512) : (stInit : St Ideal).2.1 (ix2 r 0) = (0 : EReal) := by
  show (k0_pay2 (F := Ideal)) (ix2 r 0) = (0 : EReal)
  pointwise [k0_pay2]
/-- The sum starts at zero. -/
theorem init_a (r : Fin 512) (d : Fin 128) : (stInit : St Ideal).2.2 (ix2 r d) = (0 : EReal) := by
  show (k0_pay3 (F := Ideal)) (ix2 r d) = (0 : EReal)
  pointwise [k0_pay3]

/-- What a row's last tile writes. -/
theorem out_at (s : St Ideal) (r : Fin 512) (d : Fin 128) : stOut s (ix2 r d) = Ideal.div (s.2.2 (ix2 r d)) (s.2.1 (ix2 r 0)) := by
  obtain ⟨a, b, e⟩ := s
  show k0_pay8 e b (ix2 r d) = _
  pointwise [k0_pay8]

/-- The state's row `r` after `n` tiles of logits `T` over values `W`. -/
def Good (T : ℕ → Fin 512 → EReal) (W : Fin 128 → ℕ → Fin 512 → EReal) (n : ℕ) (r : Fin 512) (s : St Ideal) : Prop :=
  s.1 (ix2 r 0) = mT T n ∧ s.2.1 (ix2 r 0) = lT T n ∧ ∀ d, s.2.2 (ix2 r d) = aT T (W d) n

/-- The starting state stands for no keys at all. -/
theorem good_init (T : ℕ → Fin 512 → EReal) (W : Fin 128 → ℕ → Fin 512 → EReal) (r : Fin 512) : Good T W 0 r stInit :=
  ⟨init_m r, init_l r, fun d => init_a r d⟩

/-- One more tile. -/
theorem good_step (T : ℕ → Fin 512 → EReal) (W : Fin 128 → ℕ → Fin 512 → EReal) (n : ℕ) (r : Fin 512) (s : St Ideal) (S : FVec Ideal S512x512 .f32)
    (v : FVec Ideal S512x128 .bf16) (hs : Good T W n r s) (hS : ∀ k, S (ix2 r k) = T n k) (hv : ∀ k d, v (ix2 k d) = W d n k) :
    Good T W (n + 1) r (upd S v s) := by
  obtain ⟨h1, h2, h3⟩ := hs
  have hM : updM S s.1 (ix2 r 0) = mT T (n + 1) := by
    rw [updM_at, h1]
    simp only [hS]
    rfl
  have e1 : (upd S v s).1 (ix2 r 0) = updM S s.1 (ix2 r 0) := by
    show shapeCast S512x1 (updM S s.1) shapeCasts_S512x1_S512x1 (ix2 r 0) = _
    generalize updM S s.1 = M
    pointwise []
  have e2 : (upd S v s).2.1 (ix2 r 0) = updL S s.1 s.2.1 (ix2 r 0) := by
    show shapeCast S512x1 (updL S s.1 s.2.1) shapeCasts_S512x1_S512x1 (ix2 r 0) = _
    generalize updL S s.1 s.2.1 = M
    pointwise []
  have e3 : ∀ d, (upd S v s).2.2 (ix2 r d) = updA S s.1 s.2.2 v (ix2 r d) := by
    intro d
    show shapeCast S512x128 (updA S s.1 s.2.2 v) shapeCasts_S512x128_S512x128 (ix2 r d) = _
    generalize updA S s.1 s.2.2 v = M
    pointwise []
  refine ⟨e1.trans hM, ?_, fun d => ?_⟩
  · rw [e2, updL_at, hM, h1, h2]
    simp only [hS]
    rfl
  · rw [e3, updA_at, hM, h1, h3]
    simp only [hS, hv]
    rfl

end Cert.AttnIdeal.Fox

end
-- ==== Proof.AttnIdealTabs0.lean ====
/-
  The attention body of `AttnIdeal`, over the whole grid.
-/
module

public import proofs.«01_k».proof.Proof.AttnIdealRuns
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- The two tables' contents: the query tile and the key tile of each step. -/
def tabs : pre0.Contents (Elt Ideal) := fun
  | ⟨0, _⟩ => fun i => lit0 (S136.rowMajor i)
  | ⟨1, _⟩ => fun i => lit1 (S136.rowMajor i)
  | ⟨_ + 2, h⟩ => absurd h (by simp)

end Cert.AttnIdeal.Fox

end
-- ==== Proof.AttnIdealTabs1.lean ====
/-
  The attention body of `AttnIdeal`, over the whole grid.
-/
module

public import proofs.«01_k».proof.Proof.AttnIdealTabs0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- The blocks of window 0 lie inside its array. -/
theorem inb0 : ∀ i : grid0.Coords, ∀ a, (cc0_transform_0 k0_off1_inb numel1_S1 tabs i a + 1) * S512x128.size a ≤ S16384x1024.size a := by decide +kernel

/-- The blocks of window 1 lie inside its array. -/
theorem inb1 : ∀ i : grid0.Coords, ∀ a, (cc0_transform_1 k0_off1_inb numel1_S1 tabs i a + 1) * S512x128.size a ≤ S16384x1024.size a := by decide +kernel

/-- The blocks of window 2 lie inside its array. -/
theorem inb2 : ∀ i : grid0.Coords, ∀ a, (cc0_transform_2 k0_off1_inb numel1_S1 tabs i a + 1) * S512x128.size a ≤ S16384x1024.size a := by decide +kernel

end Cert.AttnIdeal.Fox

end
-- ==== Proof.AttnIdealTabs2.lean ====
/-
  The attention body of `AttnIdeal`, over the whole grid.
-/
module

public import proofs.«01_k».proof.Proof.AttnIdealTabs0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- The blocks of window 3 lie inside its array. -/
theorem inb3 : ∀ i : grid0.Coords, ∀ a, (cc0_transform_3 k0_off1_inb numel1_S1 tabs i a + 1) * S1x1x512x1.size a ≤ S2x8x8192x1.size a := by decide +kernel

/-- The blocks of window 4 lie inside its array. -/
theorem inb4 : ∀ i : grid0.Coords, ∀ a, (cc0_transform_4 k0_off1_inb numel1_S1 tabs i a + 1) * S1x1x1x512.size a ≤ S2x8x1x8192.size a := by decide +kernel

/-- The blocks of window 5 lie inside its array. -/
theorem inb5 : ∀ i : grid0.Coords, ∀ a, (cc0_transform_5 k0_off1_inb numel1_S1 tabs i a + 1) * S512x128.size a ≤ S16384x1024.size a := by decide +kernel

end Cert.AttnIdeal.Fox

end
-- ==== Proof.AttnIdealTabs3.lean ====
/-
  The attention body of `AttnIdeal`, over the whole grid.
-/
module

public import proofs.«01_k».proof.Proof.AttnIdealTabs1
public import proofs.«01_k».proof.Proof.AttnIdealTabs2
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- At these tables every block lies inside its array. -/
theorem ok : ok0 (F := Ideal) tabs := ⟨fun i => ⟨inb0 i, .inr (Affine.block_words_dvd (s := S16384x1024) (p := EltTy.packing .bf16) (by decide) (by decide))⟩, fun i => ⟨inb1 i, .inr (Affine.block_words_dvd (s := S16384x1024) (p := EltTy.packing .bf16) (by decide) (by decide))⟩, fun i => ⟨inb2 i, .inr (Affine.block_words_dvd (s := S16384x1024) (p := EltTy.packing .bf16) (by decide) (by decide))⟩, fun i => ⟨inb3 i, .inl rfl⟩, fun i => ⟨inb4 i, .inl rfl⟩, fun i => ⟨inb5 i, .inr (Affine.block_words_dvd (s := S16384x1024) (p := EltTy.packing .bf16) (by decide) (by decide))⟩⟩

/-- The tables as admissible contents, and the pipeline at them. -/
def adm : (pcfg0 (F := Ideal)).Adm := ⟨tabs, ok⟩
abbrev cfgA : Pipeline.Cfg sig Λ₀ := cfg0 (F := Ideal) adm
abbrev pcs : Fin 1 → Pipeline.Cfg sig Λ₀ := Pipeline.pin (pcfgs (F := Ideal)) fun _ => adm

/-- The coordinates of a grid point, and the two words read there. -/
abbrev crd (t : Fin cfgA.N) : cfgA.grid.Coords := cfgA.grid.coords t
abbrev qw (t : Fin cfgA.N) : BitVec 32 := word (F := Ideal) tabQ (crd t) (tabs 0)
abbrev kw (t : Fin cfgA.N) : BitVec 32 := word (F := Ideal) tabK (crd t) (tabs 1)
abbrev ms0 (t : Fin cfgA.N) : Memref sig .tc .vmem S512x128 .bf16 := spec0_0.stage (cfgA.slots t (0 : Fin 6))
abbrev hs0 (t : Fin cfgA.N) : (ms0 t).IsWhole := hstage0_0 ((cfgA.slots t (0 : Fin 6)).cast nbuf0_0)
abbrev ms1 (t : Fin cfgA.N) : Memref sig .tc .vmem S512x128 .bf16 := spec0_1.stage (cfgA.slots t (1 : Fin 6))
abbrev hs1 (t : Fin cfgA.N) : (ms1 t).IsWhole := hstage0_1 ((cfgA.slots t (1 : Fin 6)).cast nbuf0_1)
abbrev ms2 (t : Fin cfgA.N) : Memref sig .tc .vmem S512x128 .bf16 := spec0_2.stage (cfgA.slots t (2 : Fin 6))
abbrev hs2 (t : Fin cfgA.N) : (ms2 t).IsWhole := hstage0_2 ((cfgA.slots t (2 : Fin 6)).cast nbuf0_2)
abbrev ms3 (t : Fin cfgA.N) : Memref sig .tc .vmem S1x1x512x1 .f32 := spec0_3.stage (cfgA.slots t (3 : Fin 6))
abbrev hs3 (t : Fin cfgA.N) : (ms3 t).IsWhole := hstage0_3 ((cfgA.slots t (3 : Fin 6)).cast nbuf0_3)
abbrev ms4 (t : Fin cfgA.N) : Memref sig .tc .vmem S1x1x1x512 .f32 := spec0_4.stage (cfgA.slots t (4 : Fin 6))
abbrev hs4 (t : Fin cfgA.N) : (ms4 t).IsWhole := hstage0_4 ((cfgA.slots t (4 : Fin 6)).cast nbuf0_4)
abbrev ms5 (t : Fin cfgA.N) : Memref sig .tc .vmem S512x128 .bf16 := spec0_5.stage (cfgA.slots t (5 : Fin 6))
abbrev hs5 (t : Fin cfgA.N) : (ms5 t).IsWhole := hstage0_5 ((cfgA.slots t (5 : Fin 6)).cast nbuf0_5)

/-- What is decided of each grid point: the walk starts at a first key tile; a point on the diagonal writes the output's
    block, a point off it leaves the output idle and unwritten. -/
abbrev Facts1 (t : Fin cfgA.N) : Prop :=
  (t.val = 0 → isFirst (kw t)) ∧ (isDiag (qw t) (kw t) → ¬ isBelow (qw t) (kw t) ∧ cfgA.idle (5 : Fin 6) (crd t) = false)
    ∧ (¬ isDiag (qw t) (kw t) → isBelow (qw t) (kw t) ∧ cfgA.idle (5 : Fin 6) (crd t) = true ∧ (cfgA.win (5 : Fin 6)).flush t = false)

end Cert.AttnIdeal.Fox

end
-- ==== Proof.AttnIdealIdx0.lean ====
/-
  The attention body of `AttnIdeal`, over the whole grid.
-/
module

public import proofs.«01_k».proof.Proof.AttnIdealTabs3
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- The query tile and the key tile of a step of the walk. -/
def qOf (s : ℕ) : ℕ := if h : s < 136 then (lit0 ⟨s, h⟩).toNat else 0
def kOf (s : ℕ) : ℕ := if h : s < 136 then (lit1 ⟨s, h⟩).toNat else 0

/-- The walk visits a query tile's key tiles in order, the diagonal's last. -/
theorem step_of : ∀ q j : Fin 16, j.val ≤ q.val → qOf (q.val * (q.val + 1) / 2 + j.val) = q.val ∧ kOf (q.val * (q.val + 1) / 2 + j.val) = j.val := by decide +kernel
/-- Where a step of the walk stands: its key tile is not past its query tile, and the step's number follows from both. -/
theorem of_step : ∀ s : Fin 136, kOf s.val ≤ qOf s.val ∧ qOf s.val < 16 ∧ s.val = qOf s.val * (qOf s.val + 1) / 2 + kOf s.val := by decide +kernel

/-- The blocks a grid point reads and writes, and where in its walk it stands. -/
abbrev Idx1 (t : Fin cfgA.N) : Prop :=
  (cfgA.win (0 : Fin 6)).index t = ![16 * (t.val / 1088) + qOf (t.val % 136), t.val / 136 % 8]
  ∧ (cfgA.win (1 : Fin 6)).index t = ![16 * (t.val / 1088) + kOf (t.val % 136), t.val / 136 % 8]
  ∧ (cfgA.win (2 : Fin 6)).index t = ![16 * (t.val / 1088) + kOf (t.val % 136), t.val / 136 % 8]
  ∧ (cfgA.win (3 : Fin 6)).index t = ![t.val / 1088, t.val / 136 % 8, qOf (t.val % 136), 0]
  ∧ (cfgA.win (4 : Fin 6)).index t = ![t.val / 1088, t.val / 136 % 8, 0, kOf (t.val % 136)]
  ∧ (cfgA.win (5 : Fin 6)).index t = ![16 * (t.val / 1088) + qOf (t.val % 136), t.val / 136 % 8]
  ∧ (isFirst (kw t) ↔ kOf (t.val % 136) = 0) ∧ (isDiag (qw t) (kw t) ↔ kOf (t.val % 136) = qOf (t.val % 136))
  ∧ (kOf (t.val % 136) = qOf (t.val % 136) → (cfgA.win (5 : Fin 6)).flush t = true)

end Cert.AttnIdeal.Fox

end
-- ==== Proof.AttnIdealIdx1.lean ====
/-
  The attention body of `AttnIdeal`, over the whole grid.
-/
module

public import proofs.«01_k».proof.Proof.AttnIdealIdx0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- Where the blocks stand, part 1 of the walk. -/
theorem idx_0 : ∀ t : Fin cfgA.N, 0 ≤ t.val → t.val < 136 → Idx1 t := by decide +kernel
/-- Where the blocks stand, part 2 of the walk. -/
theorem idx_1 : ∀ t : Fin cfgA.N, 136 ≤ t.val → t.val < 272 → Idx1 t := by decide +kernel
/-- Where the blocks stand, part 3 of the walk. -/
theorem idx_2 : ∀ t : Fin cfgA.N, 272 ≤ t.val → t.val < 408 → Idx1 t := by decide +kernel
/-- Where the blocks stand, part 4 of the walk. -/
theorem idx_3 : ∀ t : Fin cfgA.N, 408 ≤ t.val → t.val < 544 → Idx1 t := by decide +kernel

end Cert.AttnIdeal.Fox

end
-- ==== Proof.AttnIdealIdx2.lean ====
/-
  The attention body of `AttnIdeal`, over the whole grid.
-/
module

public import proofs.«01_k».proof.Proof.AttnIdealIdx0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- Where the blocks stand, part 5 of the walk. -/
theorem idx_4 : ∀ t : Fin cfgA.N, 544 ≤ t.val → t.val < 680 → Idx1 t := by decide +kernel
/-- Where the blocks stand, part 6 of the walk. -/
theorem idx_5 : ∀ t : Fin cfgA.N, 680 ≤ t.val → t.val < 816 → Idx1 t := by decide +kernel
/-- Where the blocks stand, part 7 of the walk. -/
theorem idx_6 : ∀ t : Fin cfgA.N, 816 ≤ t.val → t.val < 952 → Idx1 t := by decide +kernel
/-- Where the blocks stand, part 8 of the walk. -/
theorem idx_7 : ∀ t : Fin cfgA.N, 952 ≤ t.val → t.val < 1088 → Idx1 t := by decide +kernel

end Cert.AttnIdeal.Fox

end
-- ==== Proof.AttnIdealIdx3.lean ====
/-
  The attention body of `AttnIdeal`, over the whole grid.
-/
module

public import proofs.«01_k».proof.Proof.AttnIdealIdx0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- Where the blocks stand, part 9 of the walk. -/
theorem idx_8 : ∀ t : Fin cfgA.N, 1088 ≤ t.val → t.val < 1224 → Idx1 t := by decide +kernel
/-- Where the blocks stand, part 10 of the walk. -/
theorem idx_9 : ∀ t : Fin cfgA.N, 1224 ≤ t.val → t.val < 1360 → Idx1 t := by decide +kernel
/-- Where the blocks stand, part 11 of the walk. -/
theorem idx_10 : ∀ t : Fin cfgA.N, 1360 ≤ t.val → t.val < 1496 → Idx1 t := by decide +kernel
/-- Where the blocks stand, part 12 of the walk. -/
theorem idx_11 : ∀ t : Fin cfgA.N, 1496 ≤ t.val → t.val < 1632 → Idx1 t := by decide +kernel

end Cert.AttnIdeal.Fox

end
-- ==== Proof.AttnIdealIdx4.lean ====
/-
  The attention body of `AttnIdeal`, over the whole grid.
-/
module

public import proofs.«01_k».proof.Proof.AttnIdealIdx0
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- Where the blocks stand, part 13 of the walk. -/
theorem idx_12 : ∀ t : Fin cfgA.N, 1632 ≤ t.val → t.val < 1768 → Idx1 t := by decide +kernel
/-- Where the blocks stand, part 14 of the walk. -/
theorem idx_13 : ∀ t : Fin cfgA.N, 1768 ≤ t.val → t.val < 1904 → Idx1 t := by decide +kernel
/-- Where the blocks stand, part 15 of the walk. -/
theorem idx_14 : ∀ t : Fin cfgA.N, 1904 ≤ t.val → t.val < 2040 → Idx1 t := by decide +kernel
/-- Where the blocks stand, part 16 of the walk. -/
theorem idx_15 : ∀ t : Fin cfgA.N, 2040 ≤ t.val → t.val < 2176 → Idx1 t := by decide +kernel

end Cert.AttnIdeal.Fox

end
-- ==== Proof.AttnIdealIdx.lean ====
/-
  The attention body of `AttnIdeal`, over the whole grid.
-/
module

public import proofs.«01_k».proof.Proof.AttnIdealIdx1
public import proofs.«01_k».proof.Proof.AttnIdealIdx2
public import proofs.«01_k».proof.Proof.AttnIdealIdx3
public import proofs.«01_k».proof.Proof.AttnIdealIdx4
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- The blocks and the place in the walk, at every point. -/
theorem idx (t : Fin cfgA.N) : Idx1 t := by
  have h0 : 0 ≤ t.val := Nat.zero_le _
  rcases Nat.lt_or_ge t.val 136 with h | h1; · exact idx_0 t h0 h
  rcases Nat.lt_or_ge t.val 272 with h | h2; · exact idx_1 t h1 h
  rcases Nat.lt_or_ge t.val 408 with h | h3; · exact idx_2 t h2 h
  rcases Nat.lt_or_ge t.val 544 with h | h4; · exact idx_3 t h3 h
  rcases Nat.lt_or_ge t.val 680 with h | h5; · exact idx_4 t h4 h
  rcases Nat.lt_or_ge t.val 816 with h | h6; · exact idx_5 t h5 h
  rcases Nat.lt_or_ge t.val 952 with h | h7; · exact idx_6 t h6 h
  rcases Nat.lt_or_ge t.val 1088 with h | h8; · exact idx_7 t h7 h
  rcases Nat.lt_or_ge t.val 1224 with h | h9; · exact idx_8 t h8 h
  rcases Nat.lt_or_ge t.val 1360 with h | h10; · exact idx_9 t h9 h
  rcases Nat.lt_or_ge t.val 1496 with h | h11; · exact idx_10 t h10 h
  rcases Nat.lt_or_ge t.val 1632 with h | h12; · exact idx_11 t h11 h
  rcases Nat.lt_or_ge t.val 1768 with h | h13; · exact idx_12 t h12 h
  rcases Nat.lt_or_ge t.val 1904 with h | h14; · exact idx_13 t h13 h
  rcases Nat.lt_or_ge t.val 2040 with h | h15; · exact idx_14 t h14 h
  exact idx_15 t h15 (lt_of_lt_of_eq t.isLt N_0)

end Cert.AttnIdeal.Fox

end
-- ==== Proof.AttnIdealTabs4.lean ====
/-
  The attention body of `AttnIdeal`, over the whole grid.
-/
module

public import proofs.«01_k».proof.Proof.AttnIdealTabs3
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- What the points read and write, part 1 of the walk. -/
theorem facts_0 : ∀ t : Fin cfgA.N, 0 ≤ t.val → t.val < 272 → Facts1 t := by decide +kernel
/-- What the points read and write, part 2 of the walk. -/
theorem facts_1 : ∀ t : Fin cfgA.N, 272 ≤ t.val → t.val < 544 → Facts1 t := by decide +kernel
/-- What the points read and write, part 3 of the walk. -/
theorem facts_2 : ∀ t : Fin cfgA.N, 544 ≤ t.val → t.val < 816 → Facts1 t := by decide +kernel
end Cert.AttnIdeal.Fox

end
-- ==== Proof.AttnIdealTabs5.lean ====
/-
  The attention body of `AttnIdeal`, over the whole grid.
-/
module

public import proofs.«01_k».proof.Proof.AttnIdealTabs3
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- What the points read and write, part 4 of the walk. -/
theorem facts_3 : ∀ t : Fin cfgA.N, 816 ≤ t.val → t.val < 1088 → Facts1 t := by decide +kernel
/-- What the points read and write, part 5 of the walk. -/
theorem facts_4 : ∀ t : Fin cfgA.N, 1088 ≤ t.val → t.val < 1360 → Facts1 t := by decide +kernel
/-- What the points read and write, part 6 of the walk. -/
theorem facts_5 : ∀ t : Fin cfgA.N, 1360 ≤ t.val → t.val < 1632 → Facts1 t := by decide +kernel
end Cert.AttnIdeal.Fox

end
-- ==== Proof.AttnIdealTabs6.lean ====
/-
  The attention body of `AttnIdeal`, over the whole grid.
-/
module

public import proofs.«01_k».proof.Proof.AttnIdealTabs3
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- What the points read and write, part 7 of the walk. -/
theorem facts_6 : ∀ t : Fin cfgA.N, 1632 ≤ t.val → t.val < 1904 → Facts1 t := by decide +kernel
/-- What the points read and write, part 8 of the walk. -/
theorem facts_7 : ∀ t : Fin cfgA.N, 1904 ≤ t.val → t.val < 2176 → Facts1 t := by decide +kernel
end Cert.AttnIdeal.Fox

end
-- ==== Proof.AttnIdealTabs.lean ====
/-
  The attention body of `AttnIdeal`, over the whole grid.
-/
module

public import proofs.«01_k».proof.Proof.AttnIdealTabs4
public import proofs.«01_k».proof.Proof.AttnIdealTabs5
public import proofs.«01_k».proof.Proof.AttnIdealTabs6
public import proofs.«01_k».proof.Proof.AttnIdealSteps
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

/-- What is read and written is decided the same way at every point. -/
theorem facts1 (t : Fin cfgA.N) : Facts1 t := by
  have h0 : 0 ≤ t.val := Nat.zero_le _
  rcases Nat.lt_or_ge t.val 272 with h | h1; · exact facts_0 t h0 h
  rcases Nat.lt_or_ge t.val 544 with h | h2; · exact facts_1 t h1 h
  rcases Nat.lt_or_ge t.val 816 with h | h3; · exact facts_2 t h2 h
  rcases Nat.lt_or_ge t.val 1088 with h | h4; · exact facts_3 t h3 h
  rcases Nat.lt_or_ge t.val 1360 with h | h5; · exact facts_4 t h4 h
  rcases Nat.lt_or_ge t.val 1632 with h | h6; · exact facts_5 t h5 h
  rcases Nat.lt_or_ge t.val 1904 with h | h7; · exact facts_6 t h6 h
  exact facts_7 t h7 (lt_of_lt_of_eq t.isLt N_0)

end Cert.AttnIdeal.Fox

end
-- ==== Proof.AttnIdealFrame.lean ====
/-
  The attention body of `AttnIdeal`, over the whole grid.
-/
module

public import proofs.«01_k».proof.Proof.AttnIdealTabs
public import proofs.«01_k».proof.Defs
public import Idealize.ShloMosaic.Lib.Pipeline.Frame
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.AttnIdeal.Fox

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The buffers when the region begins: the launch contents under the host operations. -/
abbrev V (c : Dev nD) (b : Ref sig .tc) : Buf (Elt Ideal) ((c : Thread nD τ).loc b) :=
  StableHlo.after (hostOps0 (F := Ideal)) (fun b => m (c, b)) b
/-- The operations before the call introduce no fresh cells. -/
theorem host_fresh : (hostOps0 (F := Ideal)).Forall fun op => op.fresh = ∅ := by
  simp only [List.Forall]; repeat' constructor
abbrev hostW : List (Ref sig .tc) := [main_c, main_c_0, main_cst, main_v0, main_v1, main_v2, main_v3, main_v4, main_v5, main_v6, main_v7, main_v8]
/-- The operations before the call write only the cells listed. -/
theorem host_writes : (hostOps0 (F := Ideal)).Forall fun op => op.writes ⊆ (hostW.map (Proc.devRef (τ := τ) .tc)).toFinset :=
  StableHlo.forall_writes_sub_of_map rfl
/-- The program is the operations before the call, then the call. -/
theorem hmain : Pipeline.HMainP (Ix := Unit) (Name := ℕ) (U := UR sig nD τ) (Lvl := ℕ) (pcfgs (F := Ideal)) 0 defs₀ Variants.none m (main (F := Ideal)) (V m) :=
  Pipeline.hmainP_prefix (pcfgs (F := Ideal)) 0 defs₀ Variants.none m main (hostOps0 (F := Ideal)) hostOps0_sub host_fresh main_chain
/-- The call finds the table of query tiles. -/
theorem V_tab0 (c : Dev nD) : V m c main_c = tabs 0 := rfl
/-- The call finds the table of key tiles. -/
theorem V_tab1 (c : Dev nD) : V m c main_c_0 = tabs 1 := rfl
/-- The queries are as they were at the start. -/
theorem V_arg0 (c : Dev nD) : V m c main_arg0 = m ((c : Thread nD τ).loc main_arg0) := StableHlo.after_of_writes_sub (hostOps0 (F := Ideal)) _ host_writes (by decide)
/-- The keys are as they were at the start. -/
theorem V_arg1 (c : Dev nD) : V m c main_arg1 = m ((c : Thread nD τ).loc main_arg1) := StableHlo.after_of_writes_sub (hostOps0 (F := Ideal)) _ host_writes (by decide)
/-- The values are as they were at the start. -/
theorem V_arg2 (c : Dev nD) : V m c main_arg2 = m ((c : Thread nD τ).loc main_arg2) := StableHlo.after_of_writes_sub (hostOps0 (F := Ideal)) _ host_writes (by decide)
/-- The cumulated gates are as they were at the start. -/
theorem V_arg3 (c : Dev nD) : V m c main_arg3 = m ((c : Thread nD τ).loc main_arg3) := StableHlo.after_of_writes_sub (hostOps0 (F := Ideal)) _ host_writes (by decide)

/-- Window `w`'s block at point `t`, of its array as the region begins. -/
def iblk (c : Dev nD) (w : Fin cfgA.W) (t : Fin cfgA.N) : ((cfgA.win w).xblock (crd t)).Idx → Elt Ideal (cfgA.win w).elt :=
  ((cfgA.win w).blk t).view.read (Elt Ideal) (V m c (Pipeline.arrRef spec0 w))

/-- One point's step on the state. -/
def step (c : Dev nD) (t : Fin cfgA.N) (s : St Ideal) : St Ideal :=
  if isDiag (qw t) (kw t) then
    stDiag (iblk m c (0 : Fin 6) t) (iblk m c (1 : Fin 6) t) (iblk m c (2 : Fin 6) t) (iblk m c (3 : Fin 6) t) (iblk m c (4 : Fin 6) t) (if isFirst (kw t) then stInit else s)
  else
    stBelow (iblk m c (0 : Fin 6) t) (iblk m c (1 : Fin 6) t) (iblk m c (2 : Fin 6) t) (iblk m c (3 : Fin 6) t) (iblk m c (4 : Fin 6) t) (if isFirst (kw t) then stInit else s)

/-- The state before point `n`. -/
def state (c : Dev nD) : ℕ → St Ideal
  | 0 => stInit
  | n + 1 => if h : n < cfgA.N then step m c ⟨n, h⟩ (state c n) else state c n

/-- The running state after a point is one step from the state before it. -/
theorem state_succ (c : Dev nD) (t : Fin cfgA.N) : state m c (t.val + 1) = step m c t (state m c t.val) := by
  obtain ⟨n, hn⟩ := t
  exact dif_pos hn

/-- The invariant before point `t`: the scratches at the state, once a point has run, and the body's halves of the tables. -/
def Phi (c : Dev nD) (t : Fin (cfgA.N + 1)) : sProp 𝕄 :=
  iprop((∃ s, ⌜t.val ≠ 0 → s = state m c t.val⌝ ∗ heldAt c s) ∗ (tabQ.view.loc (c : Thread nD τ) ↦{fullShare.right} tabs 0) ∗ (tabK.view.loc (c : Thread nD τ) ↦{fullShare.right} tabs 1) ∗ (∃ r, prngReg c r))

/-- The proof data of the pipeline. -/
def dats (_ : Fin 1) (c : Dev nD) : Dat τ (Elt Ideal) Unit ℕ (UR sig nD τ) ℕ cfgA c where
  A w := V m c (Pipeline.arrRef spec0 w)
  after w t := match w with
    | ⟨0, _⟩ => iblk m c (0 : Fin 6) t
    | ⟨1, _⟩ => iblk m c (1 : Fin 6) t
    | ⟨2, _⟩ => iblk m c (2 : Fin 6) t
    | ⟨3, _⟩ => iblk m c (3 : Fin 6) t
    | ⟨4, _⟩ => iblk m c (4 : Fin 6) t
    | ⟨5, _⟩ => stOut (state m c (t.val + 1))
  Φ t := Phi m c t
  q _ := fullShare
  owed _ := 0
/-- The array of a window is what the call found in it. -/
theorem A_eq (c : Dev nD) (w : Fin cfgA.W) : (dats m 0 c).A w = V m c (Pipeline.arrRef spec0 w) := by dsimp only [dats]
/-- What a point leaves in window 0. -/
theorem after_0 (c : Dev nD) (t : Fin cfgA.N) : (dats m 0 c).after (0 : Fin 6) t = iblk m c (0 : Fin 6) t := by dsimp only [dats]
/-- What a point leaves in window 1. -/
theorem after_1 (c : Dev nD) (t : Fin cfgA.N) : (dats m 0 c).after (1 : Fin 6) t = iblk m c (1 : Fin 6) t := by dsimp only [dats]
/-- What a point leaves in window 2. -/
theorem after_2 (c : Dev nD) (t : Fin cfgA.N) : (dats m 0 c).after (2 : Fin 6) t = iblk m c (2 : Fin 6) t := by dsimp only [dats]
/-- What a point leaves in window 3. -/
theorem after_3 (c : Dev nD) (t : Fin cfgA.N) : (dats m 0 c).after (3 : Fin 6) t = iblk m c (3 : Fin 6) t := by dsimp only [dats]
/-- What a point leaves in window 4. -/
theorem after_4 (c : Dev nD) (t : Fin cfgA.N) : (dats m 0 c).after (4 : Fin 6) t = iblk m c (4 : Fin 6) t := by dsimp only [dats]
/-- What a point leaves in window 5. -/
theorem after_5 (c : Dev nD) (t : Fin cfgA.N) : (dats m 0 c).after (5 : Fin 6) t = stOut (state m c (t.val + 1)) := by dsimp only [dats]
/-- What a point finds in window 0. -/
theorem before_0 (c : Dev nD) (t : Fin cfgA.N) (d) : (dats m 0 c).before (0 : Fin 6) t d = iblk m c (0 : Fin 6) t :=
  ((dats m 0 c).before_in_eq_fetched (0 : Fin 6) rfl (fun _ => rfl) (fun _ _ _ => rfl) (fun t => by rw [after_0]; unfold Dat.blockOf iblk; rfl) t d).trans (by unfold Dat.fetched Dat.blockOf iblk; rfl)
/-- What a point finds in window 1. -/
theorem before_1 (c : Dev nD) (t : Fin cfgA.N) (d) : (dats m 0 c).before (1 : Fin 6) t d = iblk m c (1 : Fin 6) t :=
  ((dats m 0 c).before_in_eq_fetched (1 : Fin 6) rfl (fun _ => rfl) (fun _ _ _ => rfl) (fun t => by rw [after_1]; unfold Dat.blockOf iblk; rfl) t d).trans (by unfold Dat.fetched Dat.blockOf iblk; rfl)
/-- What a point finds in window 2. -/
theorem before_2 (c : Dev nD) (t : Fin cfgA.N) (d) : (dats m 0 c).before (2 : Fin 6) t d = iblk m c (2 : Fin 6) t :=
  ((dats m 0 c).before_in_eq_fetched (2 : Fin 6) rfl (fun _ => rfl) (fun _ _ _ => rfl) (fun t => by rw [after_2]; unfold Dat.blockOf iblk; rfl) t d).trans (by unfold Dat.fetched Dat.blockOf iblk; rfl)
/-- What a point finds in window 3. -/
theorem before_3 (c : Dev nD) (t : Fin cfgA.N) (d) : (dats m 0 c).before (3 : Fin 6) t d = iblk m c (3 : Fin 6) t :=
  ((dats m 0 c).before_in_eq_fetched (3 : Fin 6) rfl (fun _ => rfl) (fun _ _ _ => rfl) (fun t => by rw [after_3]; unfold Dat.blockOf iblk; rfl) t d).trans (by unfold Dat.fetched Dat.blockOf iblk; rfl)
/-- What a point finds in window 4. -/
theorem before_4 (c : Dev nD) (t : Fin cfgA.N) (d) : (dats m 0 c).before (4 : Fin 6) t d = iblk m c (4 : Fin 6) t :=
  ((dats m 0 c).before_in_eq_fetched (4 : Fin 6) rfl (fun _ => rfl) (fun _ _ _ => rfl) (fun t => by rw [after_4]; unfold Dat.blockOf iblk; rfl) t d).trans (by unfold Dat.fetched Dat.blockOf iblk; rfl)

/-- The body at point `t` on its staging buffers. -/
abbrev bodyAt (t : Fin cfgA.N) : Prog (TpuEff nD τ sig (Elt Ideal) Λ₀ .tc) PUnit :=
  cc0_fox_attention_prompt (crd t) tabQ (Memref.isWhole_whole _) tabK (Memref.isWhole_whole _) (ms0 t) (hs0 t) (ms1 t) (hs1 t) (ms2 t) (hs2 t) (ms3 t) (hs3 t) (ms4 t) (hs4 t) (ms5 t) (hs5 t) scrM (Memref.isWhole_whole _) scrL (Memref.isWhole_whole _) scrA (Memref.isWhole_whole _)

set_option maxHeartbeats 4000000 in
/-- The body at point `t` takes the invariant and the blocks to the invariant after it and what it leaves. -/
theorem sound_body (c : Dev nD) (t : Fin cfgA.N) :
    iprop((dats m 0 c).Φ t.castSucc ∗ (dats m 0 c).owesAt () t.castSucc ∗ (∃ d, owns (c : Thread nD τ) (ms0 t) fullShare ((dats m 0 c).before (0 : Fin 6) t d)) ∗ (∃ d, owns (c : Thread nD τ) (ms1 t) fullShare ((dats m 0 c).before (1 : Fin 6) t d)) ∗ (∃ d, owns (c : Thread nD τ) (ms2 t) fullShare ((dats m 0 c).before (2 : Fin 6) t d)) ∗ (∃ d, owns (c : Thread nD τ) (ms3 t) fullShare ((dats m 0 c).before (3 : Fin 6) t d)) ∗ (∃ d, owns (c : Thread nD τ) (ms4 t) fullShare ((dats m 0 c).before (4 : Fin 6) t d)) ∗ (∃ d, owns (c : Thread nD τ) (ms5 t) fullShare ((dats m 0 c).before (5 : Fin 6) t d)))
      ⊢ wp frame (wpE (defs₀ (F := Ideal)) Variants.none c none) Set.univ (bodyAt t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  obtain ⟨f0, fd, fb⟩ := facts1 t
  by_cases hf : isFirst (kw t) <;> by_cases hd : isDiag (qw t) (kw t)
  · obtain ⟨hb, hi⟩ := fd hd
    rewrite [hi]
    simp only [before_0, before_1, before_2, before_3, before_4, after_0, after_1, after_2, after_3, after_4, after_5]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stDiag (iblk m c (0 : Fin 6) t) (iblk m c (1 : Fin 6) t) (iblk m c (2 : Fin 6) t) (iblk m c (3 : Fin 6) t) (iblk m c (4 : Fin 6) t) stInit := fun s => by
      unfold step; rw [if_pos hd, if_pos hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    rw [es]
    iapply (wpFD c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) s _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexact H5
  · obtain ⟨hb, hi, hfl⟩ := fb hd
    rewrite [hi]
    simp only [before_0, before_1, before_2, before_3, before_4, after_0, after_1, after_2, after_3, after_4, after_5, hfl]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stBelow (iblk m c (0 : Fin 6) t) (iblk m c (1 : Fin 6) t) (iblk m c (2 : Fin 6) t) (iblk m c (3 : Fin 6) t) (iblk m c (4 : Fin 6) t) stInit := fun s => by
      unfold step; rw [if_neg hd, if_pos hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    rw [es]
    iapply (wpFB c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) s _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexists d5; iexact H5
  · obtain ⟨hb, hi⟩ := fd hd
    rewrite [hi]
    simp only [before_0, before_1, before_2, before_3, before_4, after_0, after_1, after_2, after_3, after_4, after_5]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stDiag (iblk m c (0 : Fin 6) t) (iblk m c (1 : Fin 6) t) (iblk m c (2 : Fin 6) t) (iblk m c (3 : Fin 6) t) (iblk m c (4 : Fin 6) t) s := fun s => by
      unfold step; rw [if_pos hd, if_neg hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    obtain rfl := hs (fun h => hf (f0 h))
    rw [es]
    iapply (wpND c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) (state m c t.val) _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexact H5
  · obtain ⟨hb, hi, hfl⟩ := fb hd
    rewrite [hi]
    simp only [before_0, before_1, before_2, before_3, before_4, after_0, after_1, after_2, after_3, after_4, after_5, hfl]
    rewrite [show (dats m 0 c).Φ t.succ = Phi m c t.succ from rfl, show (dats m 0 c).Φ t.castSucc = Phi m c t.castSucc from rfl, show (dats m 0 c).owesAt () t.succ = (dats m 0 c).owesAt () t.castSucc from rfl]
    unfold Phi; simp only [Fin.val_castSucc, Fin.val_succ, state_succ]
    have es : ∀ s, step m c t s = stBelow (iblk m c (0 : Fin 6) t) (iblk m c (1 : Fin 6) t) (iblk m c (2 : Fin 6) t) (iblk m c (3 : Fin 6) t) (iblk m c (4 : Fin 6) t) s := fun s => by
      unfold step; rw [if_neg hd, if_neg hf]
    iintro ⟨⟨⟨%s, %hs, HS⟩, HT0, HT1, Hr⟩, Ho, ⟨%d0, H0⟩, ⟨%d1, H1⟩, ⟨%d2, H2⟩, ⟨%d3, H3⟩, ⟨%d4, H4⟩, ⟨%d5, H5⟩⟩
    obtain rfl := hs (fun h => hf (f0 h))
    rw [es]
    iapply (wpNB c (crd t) (ms0 t) (hs0 t) (ms1 t) (hs1 t) (ms2 t) (hs2 t) (ms3 t) (hs3 t) (ms4 t) (hs4 t) (ms5 t) (hs5 t) (tabs 0) (tabs 1) (iblk m c (0 : Fin 6) t) (iblk m c (1 : Fin 6) t) (iblk m c (2 : Fin 6) t) (iblk m c (3 : Fin 6) t) (iblk m c (4 : Fin 6) t) (state m c t.val) _ hf hb hd _)
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [H5]; · iexact H5
    isplitl [HS]; · iexact HS
    iintro ⟨H0, H1, H2, H3, H4, HT0, HT1, H5, HS⟩
    isplitl [HS HT0 HT1 Hr]
    · isplitl [HS]
      · iexists _; isplitr; swap
        · iexact HS
        · ipureintro; intro _; rfl
      isplitl [HT0]; · iexact HT0
      isplitl [HT1]; · iexact HT1
      iexact Hr
    isplitl [Ho]; · iexact Ho
    isplitl [H0]; · iexact H0
    isplitl [H1]; · iexact H1
    isplitl [H2]; · iexact H2
    isplitl [H3]; · iexact H3
    isplitl [H4]; · iexact H4
    iexists d5; iexact H5

/-- The body does at every point what the running state says. -/
theorem body_obligation (c : Dev nD) : BodyObligation (dats m 0 c) (defs₀ (F := Ideal)) Variants.none () Set.univ := fun t => by
  rw [bigSep_W0]
  exact sound_body m c t

/-- The tables as the region is handed them, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- What the call starts from gives the walk its first assertion. -/
theorem hin (c : Dev nD) : iprop(Pipeline.ΦA cfgA.spec c ∗ Pipeline.ΦT pre0 tabs c) ⊢ (dats m 0 c).Φ 0 := by
  unfold Pipeline.ΦA Pipeline.ΦT
  rw [show (dats m 0 c).Φ 0 = Phi m c 0 from rfl, prefHeld_eq, scopedRest0_eq]
  unfold Phi
  iintro ⟨⟨⟨⟨%a, HM⟩, ⟨%b, HL⟩, ⟨%d, HA⟩⟩, Hr⟩, HT0, HT1⟩
  isplitl [HM HL HA]
  · iexists (scrM.view.read (Elt Ideal) a, scrL.view.read (Elt Ideal) b, scrA.view.read (Elt Ideal) d)
    isplitr
    · ipureintro; intro h; exact absurd rfl h
    · dsimp only [heldAt]
      rw [wholeM.unread_read, wholeL.unread_read, wholeA.unread_read]
      isplitl [HM]; · iexact HM
      isplitl [HL]; · iexact HL
      iexact HA
  isplitl [HT0]; · iexact HT0
  isplitl [HT1]; · iexact HT1
  iexact Hr

/-- The walk's last assertion gives back what the call owns. -/
theorem hout (c : Dev nD) : (dats m 0 c).Φ (Fin.last cfgA.N) ⊢ Pipeline.ΦA cfgA.spec c := by
  unfold Pipeline.ΦA
  rw [show (dats m 0 c).Φ (Fin.last cfgA.N) = Phi m c (Fin.last _) from rfl, scopedRest0_eq]
  unfold Phi
  iintro ⟨⟨%s, -, ⟨HM, HL, HA⟩⟩, -, -, Hr⟩
  isplitl [HM HL HA]
  · isplitl [HM]; · iexists _; iexact HM
    isplitl [HL]; · iexists _; iexact HL
    iexists _; iexact HA
  iexact Hr

/-- The prefetched tables are the ones found. -/
theorem hpf (c : Dev nD) (k : Fin 2) : V m c (pre0.ref k) = tabs k := by
  fin_cases k
  · exact V_tab0 m c
  · exact V_tab1 m c

/-- Every run ends with each window's array at what its blocks leave, every other array as the region found it, and every
    counter at zero. -/
theorem run_quiescent : θ_run (defs (F := Ideal)) (onTc (τ := τ) (main (F := Ideal))) (s₀ m ρ) (fun r => Pipeline.FramePost pcs (dats m) 0 (V m) r ∧ r.2.sem = fun _ => 0) :=
  Pipeline.θ_run_frameP_track (Q' := _) pcfgs (fun _ => adm) (dats m) (0 : Fin 1) (launch0 (F := Ideal)) defs₀ Variants.none m ρ main
    (hbody := fun c => (body_obligation m c).loose) (hshare := fun c => (dats m 0 c).share_full fun _ => rfl)
    (howed := fun _ _ => rfl) (V := V m) (hmain := hmain m) (hA := A_eq m) (hpf := hpf m) (hin := hin m) (hout := hout m)

/-- The frame: every run ends with the arguments unchanged and every counter at zero. -/
theorem frame_run : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := Ideal)) _ _).mono (fun _ h => ⟨fun c =>
    ⟨((h.1 c).2 main_arg0 (by decide)).trans (V_arg0 m c), ((h.1 c).2 main_arg1 (by decide)).trans (V_arg1 m c),
     ((h.1 c).2 main_arg2 (by decide)).trans (V_arg2 m c), ((h.1 c).2 main_arg3 (by decide)).trans (V_arg3 m c)⟩, h.2⟩)
    (run_quiescent m ρ)

end Cert.AttnIdeal.Fox

end
-- ==== Proof.AttnIdealValue.lean ====
/-
  The prompt attention: the array it ends holding is the reference's, entry by entry.
-/
module

public import proofs.«01_k».proof.Proof.AttnRef
public import proofs.«01_k».proof.Proof.AttnIdealTile
public import proofs.«01_k».proof.Proof.AttnIdealIdx
public import proofs.«01_k».proof.Proof.AttnIdealFrame
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

namespace Cert.AttnIdeal.Fox

open Cert.AttnIdeal Cert.AttnIdeal.Gen Cert.AttnSpec

open Idealize.ShloMosaic.Pipeline (Dat)

variable (m : (ℓ : Loc nD τ sig) → Buf (Elt Ideal) ℓ)

/-- The argument arrays. -/
abbrev aQ (c : Dev nD) : FVec Ideal S16384x1024 .f32 := m ((c : Thread nD τ).loc main_arg0)
abbrev aK (c : Dev nD) : FVec Ideal S16384x1024 .f32 := m ((c : Thread nD τ).loc main_arg1)
abbrev aV (c : Dev nD) : FVec Ideal S16384x1024 .f32 := m ((c : Thread nD τ).loc main_arg2)
abbrev aC (c : Dev nD) : FVec Ideal S16384x8 .f32 := m ((c : Thread nD τ).loc main_arg3)

/-- The arrays the launch reads, of the arguments. -/
theorem V_v2 (c : Dev nD) : V m c main_v2 = truncf .bf16 (mulf (aQ m c) (broadcastInDim S16384x1024 ![] bcast_S_S16384x1024 (constant S_ .f32 0x3DB504F3#32))) bitsLt_bf16_f32 := rfl
/-- The keys the call finds: the rounded argument. -/
theorem V_v3 (c : Dev nD) : V m c main_v3 = truncf .bf16 (aK m c) bitsLt_bf16_f32 := rfl
/-- The values the call finds: the rounded argument. -/
theorem V_v4 (c : Dev nD) : V m c main_v4 = truncf .bf16 (aV m c) bitsLt_bf16_f32 := rfl
/-- The gates the call finds along the rows. -/
theorem V_v7 (c : Dev nD) : V m c main_v7 = shapeCast S2x8x8192x1 (transpose S2x8x8192 [0, 2, 1] (shapeCast S2x8192x8 (aC m c) shapeCasts_S16384x8_S2x8192x8) transposes_S2x8192x8_S2x8x8192_0_2_1) shapeCasts_S2x8x8192_S2x8x8192x1 := rfl
/-- The gates the call finds along the columns. -/
theorem V_v8 (c : Dev nD) : V m c main_v8 = shapeCast S2x8x1x8192 (transpose S2x8x8192 [0, 2, 1] (shapeCast S2x8192x8 (aC m c) shapeCasts_S16384x8_S2x8192x8) transposes_S2x8192x8_S2x8x8192_0_2_1) shapeCasts_S2x8x8192_S2x8x1x8192 := rfl

/-- One entry of each. -/
theorem v2_at (c : Dev nD) (n : Fin 16384) (l : Fin 1024) : (V m c main_v2 : FVec Ideal S16384x1024 .bf16) (ix2 n l) = aQ m c (ix2 n l) * Ideal.ofBits FTy.f32 0x3DB504F3#32 := by
  rw [V_v2]
  generalize aQ m c = X
  pointwise []
/-- The keys found, one entry. -/
theorem v3_at (c : Dev nD) (n : Fin 16384) (l : Fin 1024) : (V m c main_v3 : FVec Ideal S16384x1024 .bf16) (ix2 n l) = aK m c (ix2 n l) := by
  rw [V_v3]
  generalize aK m c = X
  pointwise []
/-- The values found, one entry. -/
theorem v4_at (c : Dev nD) (n : Fin 16384) (l : Fin 1024) : (V m c main_v4 : FVec Ideal S16384x1024 .bf16) (ix2 n l) = aV m c (ix2 n l) := by
  rw [V_v4]
  generalize aV m c = X
  pointwise []
/-- The gates along the rows, one entry. -/
theorem v7_at (c : Dev nD) (b : Fin 2) (h : Fin 8) (q : Fin 8192) : (V m c main_v7 : FVec Ideal S2x8x8192x1 .f32) (ix4 b h q 0) = aC m c (ix2 ⟨b.val * 8192 + q.val, by omega⟩ h) := by
  rw [V_v7]
  generalize aC m c = X
  pointwise []
/-- The gates along the columns, one entry. -/
theorem v8_at (c : Dev nD) (b : Fin 2) (h : Fin 8) (q : Fin 8192) : (V m c main_v8 : FVec Ideal S2x8x1x8192 .f32) (ix4 b h 0 q) = aC m c (ix2 ⟨b.val * 8192 + q.val, by omega⟩ h) := by
  rw [V_v8]
  generalize aC m c = X
  pointwise []

/-- A point's sequence, head, query tile and key tile. -/
abbrev bAt (t : Fin cfgA.N) : Fin 2 := ⟨t.val / 1088, by have := lt_of_lt_of_eq t.isLt N_0; omega⟩
abbrev hAt (t : Fin cfgA.N) : Fin 8 := ⟨t.val / 136 % 8, Nat.mod_lt _ (by decide)⟩
abbrev qAt (t : Fin cfgA.N) : ℕ := qOf (t.val % 136)
abbrev kAt (t : Fin cfgA.N) : ℕ := kOf (t.val % 136)
/-- The key tile is not past the query tile. -/
theorem k_le (t : Fin cfgA.N) : kAt t ≤ qAt t := (of_step ⟨t.val % 136, Nat.mod_lt _ (by decide)⟩).1
/-- There are sixteen query tiles. -/
theorem q_lt (t : Fin cfgA.N) : qAt t < 16 := (of_step ⟨t.val % 136, Nat.mod_lt _ (by decide)⟩).2.1
abbrev qRow (t : Fin cfgA.N) (r : Fin 512) : Fin 8192 := ⟨qAt t * 512 + r.val, by have := q_lt t; omega⟩
abbrev kRow (t : Fin cfgA.N) (j : Fin 512) : Fin 8192 := ⟨kAt t * 512 + j.val, by have := q_lt t; have := k_le t; omega⟩

/-- The blocks a point reads. -/
abbrev b0 (c : Dev nD) (t : Fin cfgA.N) : FVec Ideal S512x128 .bf16 := iblk m c (0 : Fin 6) t
abbrev b1 (c : Dev nD) (t : Fin cfgA.N) : FVec Ideal S512x128 .bf16 := iblk m c (1 : Fin 6) t
abbrev b2 (c : Dev nD) (t : Fin cfgA.N) : FVec Ideal S512x128 .bf16 := iblk m c (2 : Fin 6) t
abbrev b3 (c : Dev nD) (t : Fin cfgA.N) : FVec Ideal S1x1x512x1 .f32 := iblk m c (3 : Fin 6) t
abbrev b4 (c : Dev nD) (t : Fin cfgA.N) : FVec Ideal S1x1x1x512 .f32 := iblk m c (4 : Fin 6) t

/-- One entry of each block. -/
theorem blk0_at (c : Dev nD) (t : Fin cfgA.N) (r : Fin 512) (d : Fin 128) :
    b0 m c t (ix2 r d) = aQ m c (ix2 ⟨(bAt t).val * 8192 + (qRow t r).val, by omega⟩ ⟨(hAt t).val * 128 + d.val, by omega⟩) * Ideal.ofBits FTy.f32 0x3DB504F3#32 := by
  have hi := (idx t).1
  rw [← v2_at]
  have hq := q_lt t
  unfold b0 iblk
  show (V m c main_v2 : FVec Ideal S16384x1024 .bf16) _ = (V m c main_v2 : FVec Ideal S16384x1024 .bf16) _
  congr 1
  blk_ext [hi]
  show (16 * (t.val / 1088) + qOf (t.val % 136)) * 512 + r.val = t.val / 1088 * 8192 + (qOf (t.val % 136) * 512 + r.val)
  omega
/-- A point's block of keys, one entry. -/
theorem blk1_at (c : Dev nD) (t : Fin cfgA.N) (r : Fin 512) (d : Fin 128) :
    b1 m c t (ix2 r d) = aK m c (ix2 ⟨(bAt t).val * 8192 + (kRow t r).val, by omega⟩ ⟨(hAt t).val * 128 + d.val, by omega⟩) := by
  have hi := (idx t).2.1
  rw [← v3_at]
  have hq := q_lt t
  unfold b1 iblk
  show (V m c main_v3 : FVec Ideal S16384x1024 .bf16) _ = (V m c main_v3 : FVec Ideal S16384x1024 .bf16) _
  congr 1
  blk_ext [hi]
  show (16 * (t.val / 1088) + kOf (t.val % 136)) * 512 + r.val = t.val / 1088 * 8192 + (kOf (t.val % 136) * 512 + r.val)
  omega
/-- A point's block of values, one entry. -/
theorem blk2_at (c : Dev nD) (t : Fin cfgA.N) (r : Fin 512) (d : Fin 128) :
    b2 m c t (ix2 r d) = aV m c (ix2 ⟨(bAt t).val * 8192 + (kRow t r).val, by omega⟩ ⟨(hAt t).val * 128 + d.val, by omega⟩) := by
  have hi := (idx t).2.2.1
  rw [← v4_at]
  have hq := q_lt t
  unfold b2 iblk
  show (V m c main_v4 : FVec Ideal S16384x1024 .bf16) _ = (V m c main_v4 : FVec Ideal S16384x1024 .bf16) _
  congr 1
  blk_ext [hi]
  show (16 * (t.val / 1088) + kOf (t.val % 136)) * 512 + r.val = t.val / 1088 * 8192 + (kOf (t.val % 136) * 512 + r.val)
  omega
/-- A point's gates along the rows, one entry. -/
theorem blk3_at (c : Dev nD) (t : Fin cfgA.N) (r : Fin 512) :
    b3 m c t (ix4 0 0 r 0) = aC m c (ix2 ⟨(bAt t).val * 8192 + (qRow t r).val, by omega⟩ (hAt t)) := by
  have hi := (idx t).2.2.2.1
  rw [← v7_at]
  unfold b3 iblk
  show (V m c main_v7 : FVec Ideal S2x8x8192x1 .f32) _ = (V m c main_v7 : FVec Ideal S2x8x8192x1 .f32) _
  congr 1
  blk_ext [hi]
/-- A point's gates along the columns, one entry. -/
theorem blk4_at (c : Dev nD) (t : Fin cfgA.N) (r : Fin 512) :
    b4 m c t (ix4 0 0 0 r) = aC m c (ix2 ⟨(bAt t).val * 8192 + (kRow t r).val, by omega⟩ (hAt t)) := by
  have hi := (idx t).2.2.2.2.1
  rw [← v8_at]
  unfold b4 iblk
  show (V m c main_v8 : FVec Ideal S2x8x1x8192 .f32) _ = (V m c main_v8 : FVec Ideal S2x8x1x8192 .f32) _
  congr 1
  blk_ext [hi]

/-- Every query, key and gate entry is a real number. -/
def Fin3 (c : Dev nD) : Prop := (∀ i, ∃ r : ℝ, aQ m c i = r) ∧ (∀ i, ∃ r : ℝ, aK m c i = r) ∧ ∀ i, ∃ r : ℝ, aC m c i = r

/-- The tile's logit, unmasked, is the row's logit. -/
theorem logit_at (c : Dev nD) (hF : Fin3 m c) (t : Fin cfgA.N) (r j : Fin 512) (hk : (kRow t j).val ≤ (qRow t r).val) :
    ∑ d : Fin 128, b0 m c t (ix2 r d) * b1 m c t (ix2 j d)
        + b3 m c t (ix4 0 0 r 0) - b4 m c t (ix4 0 0 0 j)
      = lgAt (aQ m c) (aK m c) (aC m c) (bAt t) (hAt t) (qRow t r) (kAt t * 512 + j.val) := by
  simp only [blk0_at, blk1_at, blk3_at, blk4_at]
  rw [(scaled _ _ _ 0 0 (fun d => hF.1 _) (fun d => hF.2.1 _) scale_real ⟨0, rfl⟩ ⟨0, rfl⟩).1]
  unfold lgAt
  rw [dif_pos hk]

/-- A logit is not plus infinity, and the first of a row is real. -/
theorem lg_top (c : Dev nD) (hF : Fin3 m c) (b : Fin 2) (h : Fin 8) (q : Fin 8192) (k : ℕ) :
    lgAt (aQ m c) (aK m c) (aC m c) b h q k ≠ ⊤ := by
  unfold lgAt
  by_cases hk : k ≤ q.val
  · rw [dif_pos hk]
    obtain ⟨r, hr⟩ := (scaled _ _ _ _ _ (fun d : Fin 128 => hF.1 (ix2 ⟨b.val * 8192 + q.val, by omega⟩ ⟨h.val * 128 + d.val, by omega⟩)) (fun d : Fin 128 => hF.2.1 (ix2 ⟨b.val * 8192 + k, by omega⟩ ⟨h.val * 128 + d.val, by omega⟩)) scale_real (hF.2.2 (ix2 ⟨b.val * 8192 + q.val, by omega⟩ h)) (hF.2.2 (ix2 ⟨b.val * 8192 + k, by omega⟩ h))).2
    rw [hr]; exact EReal.coe_ne_top _
  · rw [dif_neg hk]; exact bot_ne_top
/-- Finite arguments give the first key a logit above minus infinity. -/
theorem lg_bot (c : Dev nD) (hF : Fin3 m c) (b : Fin 2) (h : Fin 8) (q : Fin 8192) :
    lgAt (aQ m c) (aK m c) (aC m c) b h q 0 ≠ ⊥ := by
  unfold lgAt
  have hk : 0 ≤ q.val := Nat.zero_le _
  rw [dif_pos hk]
  obtain ⟨r, hr⟩ := (scaled _ _ _ _ _ (fun d : Fin 128 => hF.1 (ix2 ⟨b.val * 8192 + q.val, by omega⟩ ⟨h.val * 128 + d.val, by omega⟩)) (fun d : Fin 128 => hF.2.1 (ix2 ⟨b.val * 8192 + 0, by omega⟩ ⟨h.val * 128 + d.val, by omega⟩)) scale_real (hF.2.2 (ix2 ⟨b.val * 8192 + q.val, by omega⟩ h)) (hF.2.2 (ix2 ⟨b.val * 8192 + 0, by omega⟩ h))).2
  rw [hr]; exact EReal.coe_ne_bot _

/-- A row's tiles of logits, and of values. -/
abbrev rowT (c : Dev nD) (b : Fin 2) (h : Fin 8) (q : Fin 8192) : ℕ → Fin 512 → EReal :=
  fun j k => lgAt (aQ m c) (aK m c) (aC m c) b h q (j * 512 + k.val)
abbrev rowW (c : Dev nD) (b : Fin 2) (h : Fin 8) : Fin 128 → ℕ → Fin 512 → EReal :=
  fun d j k => vlAt (aV m c) b ⟨h.val * 128 + d.val, by omega⟩ (j * 512 + k.val)

/-- One point takes the row from the tiles before its own to the tiles up to it. -/
theorem point (c : Dev nD) (hF : Fin3 m c) (t : Fin cfgA.N) (r : Fin 512) (s : St Ideal)
    (hs : kAt t ≠ 0 → Good (rowT m c (bAt t) (hAt t) (qRow t r)) (rowW m c (bAt t) (hAt t)) (kAt t) r s) :
    Good (rowT m c (bAt t) (hAt t) (qRow t r)) (rowW m c (bAt t) (hAt t)) (kAt t + 1) r (step m c t s) := by
  have hF1 := (idx t).2.2.2.2.2.2.1
  have hD1 := (idx t).2.2.2.2.2.2.2.1
  have hg : Good (rowT m c (bAt t) (hAt t) (qRow t r)) (rowW m c (bAt t) (hAt t)) (kAt t) r (if isFirst (kw t) then stInit else s) := by
    by_cases h : isFirst (kw t)
    · rw [if_pos h]
      have h0 : kAt t = 0 := hF1.mp h
      rw [h0]
      exact good_init _ _ r
    · rw [if_neg h]
      exact hs fun h' => h (hF1.mpr h')
  have hv : ∀ (k : Fin 512) (d : Fin 128), b2 m c t (ix2 k d) = rowW m c (bAt t) (hAt t) d (kAt t) k := by
    intro k d
    rw [blk2_at]
    unfold rowW vlAt
    rw [dif_pos (kRow t k).isLt]
  unfold step
  by_cases hd : isDiag (qw t) (kw t)
  · rw [if_pos hd, stDiag_eq]
    refine good_step _ _ _ r _ _ _ hg (fun k => ?_) hv
    have hkq : kAt t = qAt t := hD1.mp hd
    rw [diag_at]
    by_cases hk : k.val ≤ r.val
    · rw [if_pos hk]
      exact logit_at m c hF t r k (by show kAt t * 512 + k.val ≤ qAt t * 512 + r.val; omega)
    · rw [if_neg hk]
      unfold rowT lgAt
      rw [dif_neg (by show ¬ kAt t * 512 + k.val ≤ qAt t * 512 + r.val; omega)]
  · rw [if_neg hd, stBelow_eq]
    refine good_step _ _ _ r _ _ _ hg (fun k => ?_) hv
    have hkq : ¬ kAt t = qAt t := fun h => hd (hD1.mpr h)
    have hle := k_le t
    rw [below_at]
    exact logit_at m c hF t r k (by show kAt t * 512 + k.val ≤ qAt t * 512 + r.val; omega)

/-- After a point, the row has taken every tile up to the point's. -/
theorem good_at (c : Dev nD) (hF : Fin3 m c) (r : Fin 512) (b : Fin 2) (h : Fin 8) (q : Fin 8192) : ∀ (j : ℕ) (t : Fin cfgA.N), kAt t = j →
    bAt t = b → hAt t = h → qRow t r = q → Good (rowT m c b h q) (rowW m c b h) (j + 1) r (state m c (t.val + 1))
  | 0, t, hj, hb, hh, hq => by
    rw [state_succ, ← hb, ← hh, ← hq, ← hj]
    exact point m c hF t r _ (fun h' => absurd hj h')
  | j + 1, t, hj, hb, hh, hq => by
    have hN := lt_of_lt_of_eq t.isLt N_0
    obtain ⟨h1, h2, h3⟩ := of_step ⟨t.val % 136, Nat.mod_lt _ (by decide)⟩
    dsimp only at h1 h2 h3
    have hk : kOf (t.val % 136) = j + 1 := hj
    have hs := step_of ⟨qOf (t.val % 136), h2⟩ ⟨j, by omega⟩ (by dsimp only; omega)
    dsimp only at hs
    have hp : (t.val - 1) % 136 = qOf (t.val % 136) * (qOf (t.val % 136) + 1) / 2 + j := by omega
    have hl : t.val - 1 < cfgA.N := by omega
    have ih := good_at c hF r b h q j ⟨t.val - 1, hl⟩ (by show kOf ((t.val - 1) % 136) = j; rw [hp]; exact hs.2)
      (by rw [← hb]; refine Fin.ext ?_; show (t.val - 1) / 1088 = t.val / 1088; omega)
      (by rw [← hh]; refine Fin.ext ?_; show (t.val - 1) / 136 % 8 = t.val / 136 % 8; omega)
      (by rw [← hq]; refine Fin.ext ?_; show qOf ((t.val - 1) % 136) * 512 + r.val = qOf (t.val % 136) * 512 + r.val; rw [hp, hs.1])
    have e4 : t.val - 1 + 1 = t.val := by omega
    dsimp only at ih
    rw [e4] at ih
    have hpt := point m c hF t r (state m c t.val)
    rw [hb, hh, hq, hj] at hpt
    rw [state_succ]
    exact hpt fun _ => ih

/-- What a point that writes leaves in a row: the row's attention. -/
theorem wrote_at (c : Dev nD) (hF : Fin3 m c) (t : Fin cfgA.N) (ht : kAt t = qAt t) (r : Fin 512) (d : Fin 128) :
    stOut (state m c (t.val + 1)) (ix2 r d)
      = rowAt (fun k => lgAt (aQ m c) (aK m c) (aC m c) (bAt t) (hAt t) (qRow t r) k.val)
          (fun k => vlAt (aV m c) (bAt t) ⟨(hAt t).val * 128 + d.val, by omega⟩ k.val) := by
  obtain ⟨-, h2, h3⟩ := good_at m c hF r (bAt t) (hAt t) (qRow t r) (kAt t) t rfl rfl rfl rfl
  rw [out_at, h2, h3]
  have hq := q_lt t
  refine row_eq (lgAt (aQ m c) (aK m c) (aC m c) (bAt t) (hAt t) (qRow t r)) (vlAt (aV m c) (bAt t) ⟨(hAt t).val * 128 + d.val, by omega⟩) (kAt t) (by omega)
    (fun k => lg_top m c hF _ _ _ k) (lg_bot m c hF _ _ _) fun k hk _ => ?_
  unfold lgAt
  rw [dif_neg (by show ¬ k ≤ qAt t * 512 + r.val; omega)]

/-- A point that writes stands on the diagonal. -/
theorem diag_of_flush (t : Fin cfgA.N) (hf : (cfgA.win (5 : Fin 6)).flush t = true) : kAt t = qAt t := by
  by_contra h
  have hd : ¬ isDiag (qw t) (kw t) := fun hd => h ((idx t).2.2.2.2.2.2.2.1.mp hd)
  have := ((facts1 t).2.2 hd).2.2
  rw [this] at hf
  exact Bool.false_ne_true hf

/-- The point that writes the entry's block. -/
theorem covered (x : S16384x1024.Idx) : ∃ t : Fin cfgA.N, (cfgA.win (5 : Fin 6)).flush t = true ∧ x ∈ ((cfgA.win (5 : Fin 6)).blk t).view.set := by
  have hx0 : (x 0).val < 16384 := (x 0).isLt
  have hx1 : (x 1).val < 1024 := (x 1).isLt
  have hq : (x 0).val % 8192 / 512 < 16 := by omega
  have hs := step_of ⟨(x 0).val % 8192 / 512, hq⟩ ⟨(x 0).val % 8192 / 512, hq⟩ le_rfl
  dsimp only at hs
  have hb : (x 0).val % 8192 / 512 * ((x 0).val % 8192 / 512 + 1) / 2 + (x 0).val % 8192 / 512 < 136 := by
    have : (x 0).val % 8192 / 512 * ((x 0).val % 8192 / 512 + 1) ≤ 15 * 16 := Nat.mul_le_mul (by omega) (by omega)
    omega
  generalize hp : (x 0).val % 8192 / 512 * ((x 0).val % 8192 / 512 + 1) / 2 + (x 0).val % 8192 / 512 = p at hs hb
  have hl : (x 0).val / 8192 * 1088 + (x 1).val / 128 * 136 + p < cfgA.N := by
    refine lt_of_lt_of_eq ?_ N_0.symm
    omega
  have hi := idx ⟨_, hl⟩
  have hm : ((x 0).val / 8192 * 1088 + (x 1).val / 128 * 136 + p) % 136 = p := by omega
  dsimp only [Idx1] at hi
  rw [hm, hs.1, hs.2] at hi
  obtain ⟨-, -, -, -, -, h5, -, -, hfl⟩ := hi
  refine ⟨⟨_, hl⟩, hfl rfl, ?_⟩
  mem_blk [h5]
  refine ⟨⟨?_, ?_⟩, ?_, ?_⟩ <;> omega

/-- The result array: the reference's, over the same arguments. -/
theorem final (c : Dev nD) (hF : Fin3 m c) : (dats m 0 c).arrAt (5 : Fin 6) cfgA.N
    = Cert.AttnRefIdeal.Value.outArr (aV m c) (Cert.AttnRefIdeal.Value.expArr (Cert.AttnRefIdeal.Value.logArr (aQ m c) (aK m c) (aC m c))) := by
  refine (dats m 0 c).arrAt_eq_of_emb (5 : Fin 6) _ (fun t hf y => ?_) fun x => covered x
  blk_simp
  rw [after_5]
  have ht := diag_of_flush t hf
  have hq : qOf (t.val % 136) < 16 := q_lt t
  have hN := lt_of_lt_of_eq t.isLt N_0
  have h5 := (idx t).2.2.2.2.2.1
  have hn : (t.val / 1088 * 8192 + (qOf (t.val % 136) * 512 + (y 0).val)) < 16384 := by
    have hy0 : (y 0).val < 512 := (y 0).isLt
    omega
  have hl : (t.val / 136 % 8 * 128 + (y 1).val) < 1024 := by
    have hy1 : (y 1).val < 128 := (y 1).isLt
    omega
  have hy : ((cfgA.win (5 : Fin 6)).blk t).view.emb y = ix2 ⟨_, hn⟩ ⟨_, hl⟩ := by
    blk_ext [h5]
  refine Eq.trans ?_ (congrArg _ hy).symm
  refine Eq.trans ?_ (Cert.AttnRefIdeal.Value.res_at _ _ _ _ ⟨_, hn⟩ ⟨_, hl⟩).symm
  have hw := wrote_at m c hF t ht (y 0) (y 1)
  have hy0 : (y 0).val < 512 := (y 0).isLt
  have hy1 : (y 1).val < 128 := (y 1).isLt
  have e1 : (⟨(t.val / 1088 * 8192 + (qOf (t.val % 136) * 512 + (y 0).val)) / 8192, by omega⟩ : Fin 2) = bAt t :=
    Fin.ext (by show (t.val / 1088 * 8192 + (qOf (t.val % 136) * 512 + (y 0).val)) / 8192 = t.val / 1088; omega)
  have e2 : (⟨(t.val / 136 % 8 * 128 + (y 1).val) / 128, by omega⟩ : Fin 8) = hAt t :=
    Fin.ext (by show (t.val / 136 % 8 * 128 + (y 1).val) / 128 = t.val / 136 % 8; omega)
  have e3 : (⟨(t.val / 1088 * 8192 + (qOf (t.val % 136) * 512 + (y 0).val)) % 8192, by omega⟩ : Fin 8192) = qRow t (y 0) :=
    Fin.ext (by show (t.val / 1088 * 8192 + (qOf (t.val % 136) * 512 + (y 0).val)) % 8192 = qOf (t.val % 136) * 512 + (y 0).val; omega)
  rw [e1, e2, e3]
  refine Eq.trans ?_ hw
  exact congrArg _ (ix2_eta y).symm

end Cert.AttnIdeal.Fox

end
-- ==== Proof.AttnPre.lean ====
/-
  What the precondition `finite_logits` says: every query, key and gate entry is a real number.
-/
module

public import proofs.«01_k».proof.Pre_finite_logits
public import Idealize.ShloMosaic.Lib.ReduceAll
public import Idealize.ShloMosaic.PureOps.Ideal.Laws

@[expose] public section

noncomputable section

open Idealize.ShloMosaic

namespace Cert.Pre_finite_logits

/-- The side conditions the function's operations take. -/
theorem facts : Facts where
  bcast_S_S16384x1024 := by decide
  reducesTo_S16384x1024_S_d0_1 := by decide
  h_S_ := by decide
  bcast_S_S16384x8 := by decide
  reducesTo_S16384x8_S_d0_1 := by decide

/-- A value whose size is below plus infinity is a real number. -/
theorem real_of_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- One array's part of the precondition, at one entry. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1) (i : s.Idx) :
    ∃ r : ℝ, x i = r := by
  haveI : Subsingleton S_.Idx := ⟨fun a b => funext fun k => k.elim0⟩
  exact real_of_lt (x i) (Host.reduce_andi_all _ _ _ _ j h i)

/-- Every query, key and gate entry is a real number. -/
theorem decode [Facts] (q k v : FVec Ideal S16384x1024 .f32) (c : FVec Ideal S16384x8 .f32) (h : fn q k v c = fun _ => 1#1) :
    (∀ i, ∃ r : ℝ, q i = r) ∧ (∀ i, ∃ r : ℝ, k i = r) ∧ ∀ i, ∃ r : ℝ, c i = r := by
  have h0 := congrFun h (Shape.Idx.first (Facts.h_S_))
  obtain ⟨h1, h2⟩ := IntOp.andi_eq_one.1 h0
  obtain ⟨h3, h4⟩ := IntOp.andi_eq_one.1 h1
  exact ⟨real_of_all q _ _ _ _ h3, real_of_all k _ _ _ _ h4, real_of_all c _ _ _ _ h2⟩

end Cert.Pre_finite_logits

end
-- ==== Proof.InprojSpec.lean ====
/-
  The mathematics of the in-projection call, one entry at a time over the extended reals.
-/
module

public import Idealize.ShloMosaic.Lib.Pipeline.ValueKit
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.InprojSpec

/-- One entry of the modulated input: `x * (1 + scale) + shift`. -/
def uAt (x scale shift : EReal) : EReal := x * (1 + scale) + shift

/-- The logarithm of the logistic function, as the call computes it. -/
def lsig (z : EReal) : EReal := min z 0 - Ideal.log1p (Ideal.exp (0 - max z (-z)))

/-- The correction term `log (1 + exp (-|z|))` is a real number, not negative. -/
theorem corr_real (z : EReal) : ∃ r : ℝ, 0 ≤ r ∧ Ideal.log1p (Ideal.exp (0 - max z (-z))) = r := by
  have h0 : Ideal.log1p 0 = ((0 : ℝ) : EReal) := by
    unfold Ideal.log1p
    rw [add_zero]
    show (if (1 : ℝ) ≤ 0 then (⊥ : EReal) else ((Real.log 1 : ℝ) : EReal)) = _
    rw [if_neg (by norm_num), Real.log_one]
  have hb : Ideal.exp (0 - ⊤) = 0 := by rw [zero_sub, EReal.neg_top, Ideal.exp_bot]
  induction z using EReal.rec with
  | bot => exact ⟨0, le_rfl, by rw [EReal.neg_bot, max_eq_right bot_le, hb, h0]⟩
  | top => exact ⟨0, le_rfl, by rw [max_eq_left le_top, hb, h0]⟩
  | coe r =>
    have h1 : (0 : EReal) - max (r : EReal) (-(r : EReal)) = ((-(max r (-r)) : ℝ) : EReal) := by
      rw [zero_sub, EReal.coe_neg, EReal.coe_strictMono.monotone.map_max, EReal.coe_neg]
    refine ⟨Real.log (1 + Real.exp (-(max r (-r)))), Real.log_nonneg (by have := Real.exp_pos (-(max r (-r))); linarith), ?_⟩
    rw [h1, Ideal.exp_coe]
    unfold Ideal.log1p
    have h2 : (1 : EReal) + ((Real.exp (-(max r (-r))) : ℝ) : EReal) = ((1 + Real.exp (-(max r (-r))) : ℝ) : EReal) := by
      rw [EReal.coe_add]; rfl
    rw [h2]
    have hp : ¬(1 + Real.exp (-(max r (-r))) ≤ 0) := by have := Real.exp_pos (-(max r (-r))); linarith
    show (if _ then _ else _) = _
    rw [if_neg hp]

/-- The logarithm of the logistic function is never plus infinity. -/
theorem lsig_ne_top (z : EReal) : lsig z ≠ ⊤ := by
  obtain ⟨r, hr, h⟩ := corr_real z
  unfold lsig
  rw [h]
  intro ht
  have : min z 0 - (r : EReal) ≤ 0 - (r : EReal) := EReal.sub_le_sub (min_le_right _ _) le_rfl
  rw [ht, zero_sub, ← EReal.coe_neg] at this
  exact absurd this (not_le.mpr (EReal.coe_lt_top _))

/-- The other way of writing it: minus the softplus of minus the argument. -/
theorem neg_softplus (z : EReal) : -(max (-z) 0 + Ideal.log1p (Ideal.exp (-(max (-z - 0) (-(-z - 0)))))) = lsig z := by
  have h1 : -(max (-z - 0) (-(-z - 0))) = 0 - max z (-z) := by rw [sub_zero, neg_neg, zero_sub, max_comm]
  rw [h1]
  unfold lsig
  obtain ⟨r, hr, h⟩ := corr_real z
  rw [h, EReal.neg_add (Or.inr (EReal.coe_ne_top r)) (Or.inr (EReal.coe_ne_bot r))]
  congr 1
  rcases le_total z 0 with hz | hz
  · rw [min_eq_left hz, max_eq_left (by rw [EReal.le_neg]; simpa using hz), neg_neg]
  · rw [min_eq_right hz, max_eq_right (by rw [EReal.neg_le]; simpa using hz), neg_zero]

/-- Splitting a number that is not plus infinity into a head, the rest, and the rest of the rest loses nothing. -/
theorem split3 (x : EReal) (hx : x ≠ ⊤) : x + (x - x) + ((x - x) - (x - x)) = x := by
  induction x using EReal.rec with
  | bot => rw [EReal.bot_add, EReal.bot_add]
  | top => exact absurd rfl hx
  | coe r => rw [← EReal.coe_sub, sub_self, ← EReal.coe_sub, sub_self, ← EReal.coe_add, add_zero, ← EReal.coe_add, add_zero]

/-- Three sums with one 0-1 factor, one for each part of the split, are the sum over the whole. -/
theorem sum_split {ι : Type*} (s : Finset ι) (p : ι → Prop) [DecidablePred p] (x : ι → EReal) (hx : ∀ i, x i ≠ ⊤) :
    (∑ i ∈ s, (if p i then (1 : EReal) else 0) * x i) + (∑ i ∈ s, (if p i then (1 : EReal) else 0) * (x i - x i))
      + (∑ i ∈ s, (if p i then (1 : EReal) else 0) * ((x i - x i) - (x i - x i))) = ∑ i ∈ s, if p i then x i else 0 := by
  rw [← Finset.sum_add_distrib, ← Finset.sum_add_distrib]
  refine Finset.sum_congr rfl fun i _ => ?_
  by_cases h : p i
  · simp only [if_pos h, one_mul]; exact split3 _ (hx i)
  · simp only [if_neg h, zero_mul, add_zero]

/-- One entry of the projection: the modulated row `n` times column `j` of the weight. -/
def projAt (X : FVec Ideal ⟨2, ![16384, 1024]⟩ .f32) (M : FVec Ideal ⟨3, ![2, 1, 6144]⟩ .f32) (W : FVec Ideal ⟨3, ![1, 1024, 7176]⟩ .f32)
    (n : Fin 16384) (j : Fin 7176) : EReal :=
  ∑ k : Fin 1024, uAt (X (ix2 n k)) (M (ix3 ⟨n.val / 8192, by omega⟩ 0 ⟨1024 + k.val, by omega⟩)) (M (ix3 ⟨n.val / 8192, by omega⟩ 0 ⟨k.val, by omega⟩)) * W (ix3 0 k j)

/-- One log-forget gate. -/
def logAt (X : FVec Ideal ⟨2, ![16384, 1024]⟩ .f32) (M : FVec Ideal ⟨3, ![2, 1, 6144]⟩ .f32) (W : FVec Ideal ⟨3, ![1, 1024, 7176]⟩ .f32)
    (B : FVec Ideal ⟨2, ![1, 8]⟩ .f32) (n : Fin 16384) (h : Fin 8) : EReal :=
  lsig (projAt X M W n ⟨5120 + h.val, by omega⟩ + B (ix2 0 h))

/-- The log-forget gates by row number, zero past the last row. -/
def logN (X : FVec Ideal ⟨2, ![16384, 1024]⟩ .f32) (M : FVec Ideal ⟨3, ![2, 1, 6144]⟩ .f32) (W : FVec Ideal ⟨3, ![1, 1024, 7176]⟩ .f32)
    (B : FVec Ideal ⟨2, ![1, 8]⟩ .f32) (h : Fin 8) (n : ℕ) : EReal :=
  if hn : n < 16384 then logAt X M W B ⟨n, hn⟩ h else 0

/-- The sum of a sequence's entries from a batch's first row up to row `n`. -/
def cumAt (L : ℕ → EReal) (n : ℕ) : EReal :=
  ∑ s ∈ Finset.range (n % 8192 + 1), L (n / 8192 * 8192 + s)

/-- The sum up to a row, written over all rows with the later ones left out. -/
theorem cum_mask (L : ℕ → EReal) (n : ℕ) :
    ∑ s : Fin 8192, (if s.val ≤ n % 8192 then L (n / 8192 * 8192 + s.val) else 0) = cumAt L n := by
  unfold cumAt
  rw [Fin.sum_univ_eq_sum_range (fun s => if s ≤ n % 8192 then L (n / 8192 * 8192 + s) else 0) 8192, ← Finset.sum_filter]
  refine Finset.sum_congr ?_ fun _ _ => rfl
  ext s
  simp only [Finset.mem_filter, Finset.mem_range]
  omega

/-- The sum up to a row: the tiles before it, and the rows of its own tile up to it. -/
theorem cum_tile (L : ℕ → EReal) (t r : ℕ) (ht : t < 64) (hr : r < 256) :
    ∑ s : Fin 256, (if s.val ≤ r then L (t * 256 + s.val) else 0) + ∑ s ∈ Finset.range (t % 32 * 256), L (t / 32 * 8192 + s)
      = cumAt L (t * 256 + r) := by
  unfold cumAt
  have h1 : (t * 256 + r) % 8192 + 1 = t % 32 * 256 + (r + 1) := by omega
  have h2 : (t * 256 + r) / 8192 = t / 32 := by omega
  rw [h1, h2, Finset.sum_range_add, add_comm]
  congr 1
  rw [Fin.sum_univ_eq_sum_range (fun s => if s ≤ r then L (t * 256 + s) else 0) 256, ← Finset.sum_filter]
  have h3 : (Finset.range 256).filter (fun s => s ≤ r) = Finset.range (r + 1) := by
    ext s
    simp only [Finset.mem_filter, Finset.mem_range]
    omega
  rw [h3]
  refine Finset.sum_congr rfl fun s _ => congrArg L ?_
  omega

/-- A 0-1 factor from a comparison of two small numbers. -/
theorem tri_val (q k : ℕ) (hq : q < 8192) (hk : k < 8192) :
    (((IntOp.cmpi CmpIPredicate.sge (BitVec.ofNat 32 q) (BitVec.ofNat 32 k)).toNat : ℝ) : EReal) = if k ≤ q then (1 : EReal) else 0 := by
  have e : IntOp.cmpi CmpIPredicate.sge (BitVec.ofNat 32 q) (BitVec.ofNat 32 k) = BitVec.ofBool (decide (k ≤ q)) := by
    rw [WordCmp.cmpi_sge_eq]
    congr 2
    rw [BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact propext Int.ofNat_le
  rw [e]
  by_cases h : k ≤ q <;> simp [h]

end Cert.InprojSpec
-- ==== Proof.InprojTile.lean ====
/-
  The in-projection call's pieces read at one index: the prepared weight, bias and triangle, and the stored values.
-/
module

public import proofs.«01_k».proof.Proof.InprojSpec
public import proofs.«01_k».proof.Proof.Gen.InprojIdeal.Frame.Runs
public import Idealize.ShloMosaic.Lib.Pipeline.Value
public import Idealize.ShloMosaic.Lib.KernelVsHost

@[expose] public section

set_option maxRecDepth 16384

noncomputable section

open Idealize.ShloMosaic Idealize.ShloMosaic.TcCoe Idealize.SL.Sem

open Idealize.ShloMosaic.Pipeline (Dat)

namespace Cert.InprojIdeal.Value

open Cert.InprojIdeal Cert.InprojIdeal.Gen Cert.InprojSpec

/-- The prepared weight: the main columns, the two gate blocks, and the forget columns padded, side by side. -/
def catArr (W : FVec Ideal S1x1024x7176 .f32) : FVec Ideal S1024x7296 .bf16 :=
  truncf .bf16 (concatenate S1024x7296 1 [⟨S1024x5120, extractStridedSlice S1024x5120 ![0, 0] (shapeCast S1024x7176 W shapeCasts_S1x1024x7176_S1024x7176) slices_S1024x7176_S1024x5120_0_0⟩,
    ⟨S1024x2048, extractStridedSlice S1024x2048 ![0, 5128] (shapeCast S1024x7176 W shapeCasts_S1x1024x7176_S1024x7176) slices_S1024x7176_S1024x2048_0_5128⟩,
    ⟨S1024x128, pad S1024x128 ![0, 0] ![0, 120] ![0, 0] (extractStridedSlice S1024x8 ![0, 5120] (shapeCast S1024x7176 W shapeCasts_S1x1024x7176_S1024x7176) slices_S1024x7176_S1024x8_0_5120) (sitofp .f32 (constantI S_ 32 0#32)) pads_S1024x8_S1024x128_000_01200 h_S_⟩]
    concatenates_S1024x5120_S1024x2048_S1024x128_S1024x7296_d1) bitsLt_bf16_f32

/-- The prepared bias: padded to a row of lanes. -/
def biasArr (B : FVec Ideal S1x8 .f32) : FVec Ideal S1x128 .f32 :=
  shapeCast S1x128 (pad S128 ![0] ![120] ![0] (shapeCast S8 B shapeCasts_S1x8_S8) (sitofp .f32 (constantI S_ 32 0#32)) pads_S8_S128_01200 h_S_) shapeCasts_S128_S1x128

/-- The prepared triangle: one at and below the diagonal, zero above. -/
def triArr : FVec Ideal S256x256 .bf16 :=
  uitofp .bf16 (cmpi .sge (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))

/-- Which column of the weight a column of the prepared weight is. -/
def col (j : ℕ) : ℕ := if j < 5120 then j else if j < 7168 then j + 8 else j - 2048

/-- A column that holds part of the weight is one of its columns. -/
theorem col_lt (j : ℕ) (hj : j < 7176) : col j < 7176 := by
  unfold col; split_ifs <;> omega

/-- One entry of the prepared weight. -/
theorem catArr_at (W : FVec Ideal S1x1024x7176 .f32) (k : Fin 1024) (j : Fin 7296) (hj : j.val < 7176) :
    catArr W (ix2 k j) = W (ix3 0 k ⟨col j.val, col_lt _ hj⟩) := by
  unfold catArr
  rw [truncf_apply]
  by_cases h1 : j.val < 5120
  · have e : (⟨col j.val, col_lt _ hj⟩ : Fin 7176) = ⟨j.val, hj⟩ := Fin.ext (if_pos h1)
    rw [e]
    refine Eq.trans (concatenate_apply_piece (s₁ := S1024x5120) 1 _ _ (ix2 k j) 0 (by simp) _ rfl rfl 0 rfl (ix2 k ⟨j.val, h1⟩) ?_ ?_) ?_
    · intro b hb
      fin_cases b
      · rfl
      · exact absurd rfl hb
    · simp
    · pointwise []
  · by_cases h2 : j.val < 7168
    · have e : (⟨col j.val, col_lt _ hj⟩ : Fin 7176) = ⟨j.val + 8, by omega⟩ := Fin.ext ((if_neg h1).trans (if_pos h2))
      rw [e]
      refine Eq.trans (concatenate_apply_piece (s₁ := S1024x2048) 1 _ _ (ix2 k j) 1 (by simp) _ rfl rfl 5120 rfl (ix2 k ⟨j.val - 5120, by omega⟩) ?_ ?_) ?_
      · intro b hb
        fin_cases b
        · rfl
        · exact absurd rfl hb
      · show 5120 + (j.val - 5120) = j.val
        omega
      · have e2 : (⟨5128 + (j.val - 5120), by omega⟩ : Fin 7176) = ⟨j.val + 8, by omega⟩ := Fin.ext (by dsimp only; omega)
        rw [← e2]
        pointwise []
    · have e : (⟨col j.val, col_lt _ hj⟩ : Fin 7176) = ⟨5120 + (j.val - 7168), by omega⟩ := Fin.ext (((if_neg h1).trans (if_neg h2)).trans (by dsimp only; omega))
      rw [e]
      refine Eq.trans (concatenate_apply_piece (s₁ := S1024x128) 1 _ _ (ix2 k j) 2 (by simp) _ rfl rfl 7168 rfl (ix2 k ⟨j.val - 7168, by omega⟩) ?_ ?_) ?_
      · intro b hb
        fin_cases b
        · rfl
        · exact absurd rfl hb
      · show 7168 + (j.val - 7168) = j.val
        omega
      · refine Eq.trans (pad_apply_of_inside _ _ _ _ _ _ _ _ (ix2 k (⟨j.val - 7168, by omega⟩ : Fin 8)) ?_) ?_
        · intro a
          fin_cases a
          · simp
          · simp
        · pointwise []

/-- One entry of the prepared bias. -/
theorem biasArr_at (B : FVec Ideal S1x8 .f32) (h : Fin 8) : biasArr B (ix2 0 ⟨h.val, by omega⟩) = B (ix2 0 h) := by
  unfold biasArr
  have hp := pad_apply_of_inside ![0] ![120] ![0] (shapeCast S8 B shapeCasts_S1x8_S8) (sitofp (F := Ideal) .f32 (constantI S_ 32 0#32)) pads_S8_S128_01200 h_S_ (ix1 (⟨h.val, by omega⟩ : Fin 128)) (ix1 h)
    (by intro a; fin_cases a; simp)
  have hs : shapeCast S8 B shapeCasts_S1x8_S8 (ix1 h) = B (ix2 0 h) := by pointwise []
  rw [hs] at hp
  rw [← hp]
  generalize pad S128 ![0] ![120] ![0] (shapeCast S8 B shapeCasts_S1x8_S8) (sitofp (F := Ideal) .f32 (constantI S_ 32 0#32)) pads_S8_S128_01200 h_S_ = P
  pointwise []

/-- One entry of the prepared triangle. -/
theorem triArr_at (r s : Fin 256) : triArr (ix2 r s) = if s.val ≤ r.val then (1 : EReal) else 0 := by
  rw [← tri_val r.val s.val (by omega) (by omega)]
  pointwise [triArr]
  rfl

/-- One entry of the modulated block. -/
theorem u_at (x : Vec Ideal S256x1024 .f32) (a b : Vec Ideal S1x1x1024 .f32) (r : Fin 256) (k : Fin 1024) :
    k0_pay2 x a b (ix2 r k) = uAt (x (ix2 r k)) (a (ix3 0 0 k)) (b (ix3 0 0 k)) := by
  pointwise [k0_pay2, uAt]

/-- The first block of columns. -/
theorem pay3_at (x : Vec Ideal S256x1024 .f32) (a b : Vec Ideal S1x1x1024 .f32) (w : Vec Ideal S1024x1024 .bf16) (j : S256x1024.Idx) :
    k0_pay3 x a b w j = ∑ k : Fin 1024, k0_pay2 x a b (ix2 (j 0) k) * w (ix2 k (j 1)) := by
  unfold k0_pay3
  generalize k0_pay2 x a b = u
  pointwise []

/-- The second block of columns. -/
theorem pay4_at (x : Vec Ideal S256x1024 .f32) (a b : Vec Ideal S1x1x1024 .f32) (w : Vec Ideal S1024x1024 .bf16) (j : S256x1024.Idx) :
    k0_pay4 x a b w j = ∑ k : Fin 1024, k0_pay2 x a b (ix2 (j 0) k) * w (ix2 k (j 1)) := by
  unfold k0_pay4
  generalize k0_pay2 x a b = u
  pointwise []

/-- The queries' block of columns, scaled. -/
theorem pay5_at (x : Vec Ideal S256x1024 .f32) (a b : Vec Ideal S1x1x1024 .f32) (w : Vec Ideal S1024x1024 .bf16) (j : S256x1024.Idx) :
    k0_pay5 x a b w j = (∑ k : Fin 1024, k0_pay2 x a b (ix2 (j 0) k) * w (ix2 k (j 1))) * Ideal.ofBits FTy.f32 0x3DB504F3#32 := by
  unfold k0_pay5
  generalize k0_pay2 x a b = u
  pointwise []

/-- The keys' block of columns. -/
theorem pay7_at (u : FVec Ideal S256x1024 .bf16) (w : Vec Ideal S1024x1024 .bf16) (j : S256x1024.Idx) :
    k0_pay7 u (k0_pay6 w) j = ∑ k : Fin 1024, u (ix2 (j 0) k) * w (ix2 k (j 1)) := by
  pointwise [k0_pay7, k0_pay6]

/-- The keys' block, rounded. -/
theorem pay8_at (u : FVec Ideal S256x1024 .bf16) (w : Vec Ideal S1024x1024 .bf16) (j : S256x1024.Idx) :
    k0_pay8 u (k0_pay6 w) j = ∑ k : Fin 1024, u (ix2 (j 0) k) * w (ix2 k (j 1)) := by
  pointwise [k0_pay8, k0_pay7, k0_pay6]

/-- The values' block of columns. -/
theorem pay9_at (u : FVec Ideal S256x1024 .bf16) (w : Vec Ideal S1024x1024 .bf16) (j : S256x1024.Idx) :
    k0_pay9 u w j = ∑ k : Fin 1024, u (ix2 (j 0) k) * w (ix2 k (j 1)) := by
  pointwise [k0_pay9]

/-- The values' block, rounded. -/
theorem pay10_at (u : FVec Ideal S256x1024 .bf16) (w : Vec Ideal S1024x1024 .bf16) (j : S256x1024.Idx) :
    k0_pay10 u w j = ∑ k : Fin 1024, u (ix2 (j 0) k) * w (ix2 k (j 1)) := by
  pointwise [k0_pay10, k0_pay9]

/-- The first gate's block of columns. -/
theorem pay11_at (u : FVec Ideal S256x1024 .bf16) (w : Vec Ideal S1024x1024 .bf16) (j : S256x1024.Idx) :
    k0_pay11 u w j = ∑ k : Fin 1024, u (ix2 (j 0) k) * w (ix2 k (j 1)) := by
  pointwise [k0_pay11]

/-- The second gate's block of columns. -/
theorem pay12_at (u : FVec Ideal S256x1024 .bf16) (w : Vec Ideal S1024x1024 .bf16) (j : S256x1024.Idx) :
    k0_pay12 u w j = ∑ k : Fin 1024, u (ix2 (j 0) k) * w (ix2 k (j 1)) := by
  pointwise [k0_pay12]

/-- The forget gates' argument. -/
theorem pay13_at (u : FVec Ideal S256x1024 .bf16) (w : Vec Ideal S1024x128 .bf16) (b : Vec Ideal S1x128 .f32) (j : S256x128.Idx) :
    k0_pay13 u w b j = ∑ k : Fin 1024, u (ix2 (j 0) k) * w (ix2 k (j 1)) + b (ix2 0 (j 1)) := by
  pointwise [k0_pay13]

/-- The log-forget gates, over all lanes. -/
theorem pay15_at (z : FVec Ideal S256x128 .f32) (j : S256x128.Idx) : k0_pay15 z k0_pay14 j = lsig (z j) := by
  pointwise [k0_pay15, k0_pay14, lsig]
  rfl

/-- The log-forget gates' eight lanes. -/
theorem pay16_at (z : FVec Ideal S256x128 .f32) (r : Fin 256) (h : Fin 8) : k0_pay16 z k0_pay14 (ix2 r h) = lsig (z (ix2 r ⟨h.val, by omega⟩)) := by
  rw [← pay15_at]
  unfold k0_pay16
  generalize k0_pay15 z k0_pay14 = L
  pointwise []

/-- The carry starts at zero. -/
theorem pay17_at (j : S1x128.Idx) : (k0_pay17 (F := Ideal)) j = (0 : EReal) := by
  pointwise [k0_pay17]

/-- The running sums of a tile: its own rows up to each, and what came in. -/
theorem pay18_at (z : FVec Ideal S256x128 .f32) (q : Vec Ideal S1x128 .f32) (r : Fin 256) (l : Fin 128) :
    k0_pay18 z k0_pay14 triArr q (ix2 r l) = (∑ s : Fin 256, if s.val ≤ r.val then lsig (z (ix2 s l)) else 0) + q (ix2 0 l) := by
  have h : ∀ T : Vec Ideal S256x256 .bf16, ∀ L : FVec Ideal S256x128 .f32, k0_pay15 z k0_pay14 = L → k0_pay18 z k0_pay14 T q (ix2 r l)
      = (∑ s : Fin 256, T (ix2 r s) * L (ix2 s l)) + (∑ s : Fin 256, T (ix2 r s) * (L (ix2 s l) - L (ix2 s l)))
        + (∑ s : Fin 256, T (ix2 r s) * ((L (ix2 s l) - L (ix2 s l)) - (L (ix2 s l) - L (ix2 s l)))) + q (ix2 0 l) := by
    intro T L hL
    unfold k0_pay18
    rw [hL]
    pointwise []
  rw [h _ _ rfl]
  simp only [pay15_at, triArr_at]
  rw [sum_split _ (fun s : Fin 256 => s.val ≤ r.val) (fun s => lsig (z (ix2 s l))) (fun _ => lsig_ne_top _)]

/-- The running sums' eight lanes. -/
theorem pay19_at (z : FVec Ideal S256x128 .f32) (q : Vec Ideal S1x128 .f32) (r : Fin 256) (h : Fin 8) :
    k0_pay19 z k0_pay14 triArr q (ix2 r h) = k0_pay18 z k0_pay14 triArr q (ix2 r ⟨h.val, by omega⟩) := by
  unfold k0_pay19
  generalize k0_pay18 z k0_pay14 triArr q = S
  pointwise []

/-- What is carried on: the last row. -/
theorem pay1_at (S : FVec Ideal S256x128 .f32) (l : Fin 128) : k0_pay1 S (ix2 0 l) = S (ix2 255 l) := by
  pointwise [k0_pay1]

/-- The blocks the grid points read. -/
theorem idx : ∀ t : Fin cfg0.N, win0_0.index t = ![t.val, 0] ∧ win0_1.index t = ![t.val / 32, 0, 0] ∧
    win0_2.index t = ![t.val / 32, 0, 1] ∧ win0_3.index t = ![0, 0] ∧ win0_4.index t = ![0, 0] ∧ win0_5.index t = ![0, 0] ∧
    win0_6.index t = ![t.val, 0] ∧ win0_7.index t = ![t.val, 0] ∧ win0_8.index t = ![t.val, 0] ∧ win0_9.index t = ![t.val, 0] ∧
    win0_10.index t = ![t.val, 0] ∧ win0_11.index t = ![t.val, 0] ∧ win0_12.index t = ![t.val, 0] ∧ win0_13.index t = ![t.val, 0] ∧
    win0_14.index t = ![t.val, 0] ∧ win0_15.index t = ![t.val, 0] ∧ win0_16.index t = ![t.val, 0] :=
  (by decide +kernel : ∀ t : Fin grid0.N, _)

variable (m : (ℓ : Loc nD τ sig) → Buf (Elt Ideal) ℓ)

/-- The array of rows, as launched. -/
abbrev aX (c : Dev nD) : FVec Ideal S16384x1024 .f32 := m ((c : Thread nD τ).loc main_arg0)
/-- The modulation, as launched. -/
abbrev aM (c : Dev nD) : FVec Ideal S2x1x6144 .f32 := m ((c : Thread nD τ).loc main_arg1)
/-- The weight, as launched. -/
abbrev aW (c : Dev nD) : FVec Ideal S1x1024x7176 .f32 := m ((c : Thread nD τ).loc main_arg2)
/-- The bias, as launched. -/
abbrev aB (c : Dev nD) : FVec Ideal S1x8 .f32 := m ((c : Thread nD τ).loc main_arg3)

/-- The weight the launch reads is the prepared one. -/
theorem V_v6 (c : Dev nD) : V m c main_v6 = catArr (aW m c) := rfl
/-- The bias the launch reads is the prepared one. -/
theorem V_v9 (c : Dev nD) : V m c main_v9 = biasArr (aB m c) := rfl
/-- The triangle the launch reads is the prepared one. -/
theorem V_v17 (c : Dev nD) : V m c main_v17 = triArr := rfl

/-- The row of the arrays a block's row sits at. -/
abbrev rowOf (t : Fin cfg0.N) (r : Fin 256) : Fin 16384 :=
  ⟨t.val * 256 + r.val, by have := t.isLt; have hN : cfg0.N = 64 := N_0; omega⟩

/-- The batch of a grid point. -/
abbrev batOf (t : Fin cfg0.N) : Fin 2 := ⟨t.val / 32, by have := t.isLt; have hN : cfg0.N = 64 := N_0; omega⟩

/-- A block's row of the input. -/
theorem blk0_at (c : Dev nD) (t : Fin cfg0.N) (r : Fin 256) (k : Fin 1024) : (iblk m c 0 t : Vec Ideal S256x1024 .f32) (ix2 r k) = aX m c (ix2 (rowOf t r) k) := by
  blk_ext [iblk, V, idx t]
/-- The batch's shift. -/
theorem blk1_at (c : Dev nD) (t : Fin cfg0.N) (k : Fin 1024) : (iblk m c 1 t : Vec Ideal S1x1x1024 .f32) (ix3 0 0 k) = aM m c (ix3 (batOf t) 0 ⟨k.val, by omega⟩) := by
  blk_ext [iblk, V, idx t]
/-- The batch's scale. -/
theorem blk2_at (c : Dev nD) (t : Fin cfg0.N) (k : Fin 1024) : (iblk m c 2 t : Vec Ideal S1x1x1024 .f32) (ix3 0 0 k) = aM m c (ix3 (batOf t) 0 ⟨1024 + k.val, by omega⟩) := by
  blk_ext [iblk, V, idx t]
/-- The whole prepared weight. -/
theorem blk3_eq (c : Dev nD) (t : Fin cfg0.N) : (iblk m c 3 t : Vec Ideal S1024x7296 .bf16) = catArr (aW m c) := by
  rw [← V_v6]
  funext y
  blk_ext [iblk, idx t]
/-- The whole prepared bias. -/
theorem blk4_eq (c : Dev nD) (t : Fin cfg0.N) : (iblk m c 4 t : Vec Ideal S1x128 .f32) = biasArr (aB m c) := by
  rw [← V_v9]
  funext y
  blk_ext [iblk, idx t]
/-- The whole prepared triangle. -/
theorem blk5_eq (c : Dev nD) (t : Fin cfg0.N) : (iblk m c 5 t : Vec Ideal S256x256 .bf16) = triArr := by
  rw [← V_v17 m c]
  funext y
  blk_ext [iblk, idx t]

end Cert.InprojIdeal.Value
-- ==== Proof.InprojRef.lean ====
/-
  The reference in-projection, read at one index.
-/
module

public import proofs.«01_k».proof.Proof.InprojSpec
public import proofs.«01_k».proof.Proof.Gen.InprojRefIdeal.Run

@[expose] public section

set_option maxRecDepth 16384

noncomputable section

open Idealize.ShloMosaic Idealize.ShloMosaic.TcCoe Idealize.SL.Sem

namespace Cert.InprojRefIdeal.Value

open Cert.InprojRefIdeal Cert.InprojRefIdeal.Gen Cert.InprojSpec

/-- The reference's whole projection. -/
def projArr (X : FVec Ideal S16384x1024 .f32) (M : FVec Ideal S2x1x6144 .f32) (W : FVec Ideal S1x1024x7176 .f32) : FVec Ideal S16384x7176 .f32 :=
  (shapeCast _ (Host.dotGeneral dot_S2x8192x1024_S1024x7176_S2x8192x7176_2_0_01_1_n_n none (addf (mulf (shapeCast _ X shapeCasts_S16384x1024_S2x8192x1024) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] M slices_S2x1x6144_S2x1x1024_0_0_1024)))) (broadcastInDim S2x8192x1024 ![0, 1, 2] bcast_S2x1x1024_S2x8192x1024_0_1_2 (extractStridedSlice S2x1x1024 ![0, 0, 0] M slices_S2x1x6144_S2x1x1024_0_0_0))) (shapeCast _ W shapeCasts_S1x1024x7176_S1024x7176)) shapeCasts_S2x8192x7176_S16384x7176)

/-- The recurrent branch's input: columns 0 to 1023. -/
def xbArr (P : FVec Ideal S16384x7176 .f32) : FVec Ideal S16384x1024 .f32 :=
  extractStridedSlice S16384x1024 ![0, 0] P slices_S16384x7176_S16384x1024_0_0

/-- The recurrent branch's gate: columns 1024 to 2047. -/
def gbArr (P : FVec Ideal S16384x7176 .f32) : FVec Ideal S16384x1024 .f32 :=
  extractStridedSlice S16384x1024 ![0, 1024] P slices_S16384x7176_S16384x1024_0_1024

/-- The keys: columns 3072 to 4095. -/
def kArr (P : FVec Ideal S16384x7176 .f32) : FVec Ideal S16384x1024 .f32 :=
  extractStridedSlice S16384x1024 ![0, 3072] P slices_S16384x7176_S16384x1024_0_3072

/-- The values: columns 4096 to 5119. -/
def vArr (P : FVec Ideal S16384x7176 .f32) : FVec Ideal S16384x1024 .f32 :=
  extractStridedSlice S16384x1024 ![0, 4096] P slices_S16384x7176_S16384x1024_0_4096

/-- The recurrent output's gate: columns 5128 to 6151. -/
def glArr (P : FVec Ideal S16384x7176 .f32) : FVec Ideal S16384x1024 .f32 :=
  extractStridedSlice S16384x1024 ![0, 5128] P slices_S16384x7176_S16384x1024_0_5128

/-- The attention output's gate: columns 6152 to 7175. -/
def gaArr (P : FVec Ideal S16384x7176 .f32) : FVec Ideal S16384x1024 .f32 :=
  extractStridedSlice S16384x1024 ![0, 6152] P slices_S16384x7176_S16384x1024_0_6152

/-- The scaled queries, rounded. -/
def qArr (P : FVec Ideal S16384x7176 .f32) : FVec Ideal S16384x1024 .bf16 :=
  truncf .bf16 (mulf (extractStridedSlice S16384x1024 ![0, 2048] P slices_S16384x7176_S16384x1024_0_2048) (broadcastInDim S16384x1024 ![] bcast_S_S16384x1024 (constant S_ .f32 0x3DB504F3#32))) bitsLt_bf16_f32

/-- The keys, rounded. -/
def kbArr (P : FVec Ideal S16384x7176 .f32) : FVec Ideal S16384x1024 .bf16 := truncf .bf16 (kArr P) bitsLt_bf16_f32

/-- The values, rounded. -/
def vbArr (P : FVec Ideal S16384x7176 .f32) : FVec Ideal S16384x1024 .bf16 := truncf .bf16 (vArr P) bitsLt_bf16_f32

/-- The gates' arguments: eight columns of the projection and the bias. -/
def zArr (P : FVec Ideal S16384x7176 .f32) (B : FVec Ideal S1x8 .f32) : FVec Ideal S16384x8 .f32 :=
  (addf (extractStridedSlice S16384x8 ![0, 5120] P slices_S16384x7176_S16384x8_0_5120) (broadcastInDim S16384x8 ![0, 1] bcast_S1x8_S16384x8_0_1 (broadcastInDim S1x8 ![1] bcast_S8_S1x8_1 (shapeCast _ B shapeCasts_S1x8_S8))))

/-- The reference's logarithm of the logistic function, over an array. -/
def lsArr (Z : FVec Ideal S16384x8 .f32) : FVec Ideal S16384x8 .f32 :=
  Host.negf (select (cmpf .une (subf (Host.negf Z) (broadcastInDim S16384x8 ![] bcast_S_S16384x8 (constant S_ .f32 0x00000000#32))) (subf (Host.negf Z) (broadcastInDim S16384x8 ![] bcast_S_S16384x8 (constant S_ .f32 0x00000000#32)))) (addf (Host.negf Z) (broadcastInDim S16384x8 ![] bcast_S_S16384x8 (constant S_ .f32 0x00000000#32))) (addf (maximumf (Host.negf Z) (broadcastInDim S16384x8 ![] bcast_S_S16384x8 (constant S_ .f32 0x00000000#32))) (Host.log1p (Host.exp (Host.negf (Host.absf (subf (Host.negf Z) (broadcastInDim S16384x8 ![] bcast_S_S16384x8 (constant S_ .f32 0x00000000#32)))))))))

/-- The reference's running sums of an array along each batch. -/
def cumArr (L : FVec Ideal S16384x8 .f32) : FVec Ideal S16384x8 .f32 :=
  shapeCast _ (transpose S2x8192x8 [0, 2, 1] (Host.dotGeneral dot_S2x8192x8_S8192x8192_S2x8x8192_1_1_02_0_n_n none (shapeCast _ L shapeCasts_S16384x8_S2x8192x8) (uitofp .f32 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) transposes_S2x8x8192_S2x8192x8_0_2_1) shapeCasts_S2x8192x8_S16384x8

/-- The reference's log-forget gates in these terms. -/
theorem res9_eq (m : (ℓ : Loc nD τ sig) → Buf (Elt Ideal) ℓ) (c : Dev nD) :
    res_out9 m c = lsArr (zArr (projArr (m ((c.tc : Thread nD τ).loc main_arg0)) (m ((c.tc : Thread nD τ).loc main_arg1)) (m ((c.tc : Thread nD τ).loc main_arg2))) (m ((c.tc : Thread nD τ).loc main_arg3))) := rfl

/-- The reference's running sums in these terms. -/
theorem res10_eq (m : (ℓ : Loc nD τ sig) → Buf (Elt Ideal) ℓ) (c : Dev nD) :
    res_out10 m c = cumArr (lsArr (zArr (projArr (m ((c.tc : Thread nD τ).loc main_arg0)) (m ((c.tc : Thread nD τ).loc main_arg1)) (m ((c.tc : Thread nD τ).loc main_arg2))) (m ((c.tc : Thread nD τ).loc main_arg3)))) := rfl

/-- The pattern of one denotes one. -/
theorem one_bits : Ideal.ofBits FTy.f32 0x3F800000#32 = 1 := by
  simp [Ideal.ofBits, Ideal.ieee, -EReal.coe_mul]; norm_num

/-- One entry of the projection. -/
theorem projArr_at (X : FVec Ideal S16384x1024 .f32) (M : FVec Ideal S2x1x6144 .f32) (W : FVec Ideal S1x1024x7176 .f32) (n : Fin 16384) (j : Fin 7176) :
    projArr X M W (ix2 n j) = projAt X M W n j := by
  pointwise [projArr, projAt, uAt]

/-- The recurrent branch's input, one entry. -/
theorem xbArr_at (X : FVec Ideal S16384x1024 .f32) (M : FVec Ideal S2x1x6144 .f32) (W : FVec Ideal S1x1024x7176 .f32) (n : Fin 16384) (l : Fin 1024) :
    xbArr (projArr X M W) (ix2 n l) = projAt X M W n ⟨0 + l.val, by omega⟩ := by
  rw [← projArr_at]
  generalize projArr X M W = P
  pointwise [xbArr]

/-- The recurrent branch's gate, one entry. -/
theorem gbArr_at (X : FVec Ideal S16384x1024 .f32) (M : FVec Ideal S2x1x6144 .f32) (W : FVec Ideal S1x1024x7176 .f32) (n : Fin 16384) (l : Fin 1024) :
    gbArr (projArr X M W) (ix2 n l) = projAt X M W n ⟨1024 + l.val, by omega⟩ := by
  rw [← projArr_at]
  generalize projArr X M W = P
  pointwise [gbArr]

/-- The keys, one entry. -/
theorem kArr_at (X : FVec Ideal S16384x1024 .f32) (M : FVec Ideal S2x1x6144 .f32) (W : FVec Ideal S1x1024x7176 .f32) (n : Fin 16384) (l : Fin 1024) :
    kArr (projArr X M W) (ix2 n l) = projAt X M W n ⟨3072 + l.val, by omega⟩ := by
  rw [← projArr_at]
  generalize projArr X M W = P
  pointwise [kArr]

/-- The values, one entry. -/
theorem vArr_at (X : FVec Ideal S16384x1024 .f32) (M : FVec Ideal S2x1x6144 .f32) (W : FVec Ideal S1x1024x7176 .f32) (n : Fin 16384) (l : Fin 1024) :
    vArr (projArr X M W) (ix2 n l) = projAt X M W n ⟨4096 + l.val, by omega⟩ := by
  rw [← projArr_at]
  generalize projArr X M W = P
  pointwise [vArr]

/-- The recurrent output's gate, one entry. -/
theorem glArr_at (X : FVec Ideal S16384x1024 .f32) (M : FVec Ideal S2x1x6144 .f32) (W : FVec Ideal S1x1024x7176 .f32) (n : Fin 16384) (l : Fin 1024) :
    glArr (projArr X M W) (ix2 n l) = projAt X M W n ⟨5128 + l.val, by omega⟩ := by
  rw [← projArr_at]
  generalize projArr X M W = P
  pointwise [glArr]

/-- The attention output's gate, one entry. -/
theorem gaArr_at (X : FVec Ideal S16384x1024 .f32) (M : FVec Ideal S2x1x6144 .f32) (W : FVec Ideal S1x1024x7176 .f32) (n : Fin 16384) (l : Fin 1024) :
    gaArr (projArr X M W) (ix2 n l) = projAt X M W n ⟨6152 + l.val, by omega⟩ := by
  rw [← projArr_at]
  generalize projArr X M W = P
  pointwise [gaArr]

/-- The scaled queries, one entry. -/
theorem qArr_at (X : FVec Ideal S16384x1024 .f32) (M : FVec Ideal S2x1x6144 .f32) (W : FVec Ideal S1x1024x7176 .f32) (n : Fin 16384) (l : Fin 1024) :
    qArr (projArr X M W) (ix2 n l) = projAt X M W n ⟨2048 + l.val, by omega⟩ * Ideal.ofBits FTy.f32 0x3DB504F3#32 := by
  rw [← projArr_at]
  generalize projArr X M W = P
  pointwise [qArr]

/-- The rounded keys, one entry. -/
theorem kbArr_at (X : FVec Ideal S16384x1024 .f32) (M : FVec Ideal S2x1x6144 .f32) (W : FVec Ideal S1x1024x7176 .f32) (n : Fin 16384) (l : Fin 1024) :
    kbArr (projArr X M W) (ix2 n l) = projAt X M W n ⟨3072 + l.val, by omega⟩ := by
  rw [← kArr_at]
  rfl

/-- The rounded values, one entry. -/
theorem vbArr_at (X : FVec Ideal S16384x1024 .f32) (M : FVec Ideal S2x1x6144 .f32) (W : FVec Ideal S1x1024x7176 .f32) (n : Fin 16384) (l : Fin 1024) :
    vbArr (projArr X M W) (ix2 n l) = projAt X M W n ⟨4096 + l.val, by omega⟩ := by
  rw [← vArr_at]
  rfl

/-- One gate argument. -/
theorem zArr_at (P : FVec Ideal S16384x7176 .f32) (B : FVec Ideal S1x8 .f32) (n : Fin 16384) (h : Fin 8) :
    zArr P B (ix2 n h) = P (ix2 n ⟨5120 + h.val, by omega⟩) + B (ix2 0 h) := by
  pointwise [zArr]

/-- One gate. -/
theorem lsArr_at (Z : FVec Ideal S16384x8 .f32) (n : Fin 16384) (h : Fin 8) :
    lsArr Z (ix2 n h) = lsig (Z (ix2 n h)) := by
  rw [← neg_softplus]
  pointwise [lsArr]
  rw [if_neg (by simp)]
  rfl

/-- One running sum. -/
theorem cumArr_at (L : FVec Ideal S16384x8 .f32) (n : Fin 16384) (h : Fin 8) :
    cumArr L (ix2 n h) = ∑ s : Fin 8192, L (ix2 ⟨n.val / 8192 * 8192 + s.val, by omega⟩ h) *
      (((IntOp.cmpi CmpIPredicate.sge (BitVec.ofNat 32 (n.val % 8192)) (BitVec.ofNat 32 s.val)).toNat : ℝ) : EReal) := by
  pointwise [cumArr]
  rfl

/-- One log-forget gate of the reference. -/
theorem log_at (X : FVec Ideal S16384x1024 .f32) (M : FVec Ideal S2x1x6144 .f32) (W : FVec Ideal S1x1024x7176 .f32) (B : FVec Ideal S1x8 .f32) (n : Fin 16384) (h : Fin 8) :
    lsArr (zArr (projArr X M W) B) (ix2 n h) = logAt X M W B n h := by
  rw [lsArr_at, zArr_at, projArr_at]
  rfl

/-- One running sum of the reference's log-forget gates. -/
theorem cum_at (X : FVec Ideal S16384x1024 .f32) (M : FVec Ideal S2x1x6144 .f32) (W : FVec Ideal S1x1024x7176 .f32) (B : FVec Ideal S1x8 .f32) (n : Fin 16384) (h : Fin 8) :
    cumArr (lsArr (zArr (projArr X M W) B)) (ix2 n h) = cumAt (logN X M W B h) n.val := by
  rw [cumArr_at, ← cum_mask]
  refine Finset.sum_congr rfl fun s _ => ?_
  rw [log_at, tri_val _ _ (by omega) s.isLt]
  have hn : n.val / 8192 * 8192 + s.val < 16384 := by omega
  have e : logN X M W B h (n.val / 8192 * 8192 + s.val) = logAt X M W B ⟨n.val / 8192 * 8192 + s.val, hn⟩ h := by
    unfold logN; rw [dif_pos hn]
  rw [e]
  by_cases hs : s.val ≤ n.val % 8192
  · simp only [if_pos hs, mul_one]
  · simp only [if_neg hs, mul_zero]

end Cert.InprojRefIdeal.Value
-- ==== Proof.InprojValue.lean ====
/-
  The in-projection call: the arrays it ends holding are the reference's, entry by entry.
-/
module

public import proofs.«01_k».proof.Proof.InprojTile
public import proofs.«01_k».proof.Proof.InprojRef
public import proofs.«01_k».proof.Proof.Gen.InprojIdeal.Frame

@[expose] public section

set_option maxRecDepth 16384

noncomputable section

open Idealize.ShloMosaic Idealize.ShloMosaic.TcCoe Idealize.SL.Sem

open Idealize.ShloMosaic.Pipeline (Dat)

namespace Cert.InprojIdeal.Value

open Cert.InprojIdeal Cert.InprojIdeal.Gen Cert.InprojSpec

variable (m : (ℓ : Loc nD τ sig) → Buf (Elt Ideal) ℓ)

/-- The modulated block of a grid point. -/
abbrev uBlk (c : Dev nD) (t : Fin cfg0.N) : FVec Ideal S256x1024 .bf16 := k0_pay2 (iblk m c 0 t) (iblk m c 2 t) (iblk m c 1 t)

/-- The forget gates' arguments of a grid point, over all lanes. -/
abbrev zBlk (c : Dev nD) (t : Fin cfg0.N) : FVec Ideal S256x128 .f32 :=
  k0_pay13 (uBlk m c t) (View.ld (iblk m c 3 t) (Rect.unit ![0, 7168] ![1024, 128] inb_S1024x7296_S1024x128_0_7168)) (iblk m c 4 t)

/-- What the point before left to carry. -/
abbrev carry (c : Dev nD) (n : ℕ) (h : n < cfg0.N) : Vec Ideal S1x128 .f32 := (outsAt0 m c n h).2.2.2.2.2.2.2.2.2.2.2

/-- A modulated row times a column of the prepared weight. -/
theorem dot_at (c : Dev nD) (t : Fin cfg0.N) (r : Fin 256) (w : Fin 1024 → EReal) (j : ℕ) (hj : j < 7176)
    (hw : ∀ k, w k = catArr (aW m c) (ix2 k ⟨j, by omega⟩)) :
    ∑ k : Fin 1024, uBlk m c t (ix2 r k) * w k = projAt (aX m c) (aM m c) (aW m c) (rowOf t r) ⟨col j, col_lt j hj⟩ := by
  unfold projAt
  refine Finset.sum_congr rfl fun k _ => ?_
  have hb : (⟨(rowOf t r).val / 8192, by omega⟩ : Fin 2) = batOf t := Fin.ext (by dsimp only; omega)
  unfold uBlk
  rw [hw, catArr_at _ _ _ hj, u_at, blk0_at, blk1_at, blk2_at, hb]

/-- A block of the prepared weight's columns, one entry. -/
theorem ld_at (Y : Vec Ideal S1024x7296 .bf16) (o n : ℕ) (inb : ∀ a, (![0, o] : Fin 2 → ℕ) a + (![1024, n] : Fin 2 → ℕ) a ≤ S1024x7296.size a) (k : Fin 1024) (j : Fin n) (h : o + j.val < 7296) :
    View.ld Y (Rect.unit (s := S1024x7296) ![0, o] ![1024, n] inb) (ix2 k j) = Y (ix2 k ⟨o + j.val, h⟩) := by
  rw [View.ld_apply]
  refine congrArg Y (funext fun a => Fin.ext ?_)
  fin_cases a
  · simp
  · simp

/-- The recurrent branch's input: what a point leaves. -/
theorem out6 (c : Dev nD) (t : Fin cfg0.N) : (outsAt0 m c t.val t.isLt).1 = k0_pay3 (iblk m c 0 t) (iblk m c 2 t) (iblk m c 1 t) (View.ld (iblk m c 3 t) (Rect.unit ![0, 0] ![1024, 1024] inb_S1024x7296_S1024x1024_0_0)) := by
  by_cases h : t.val % 32 = 0
  · rw [outsAt0_A m c t h]; frame_out; rfl
  · rw [outsAt0_B m c t h]; frame_out; rfl

/-- The recurrent branch's input: the array left is the reference's. -/
theorem fin6 (c : Dev nD) : (dats m 0 c).arrAt 6 cfg0.N = Cert.InprojRefIdeal.Value.xbArr (Cert.InprojRefIdeal.Value.projArr (aX m c) (aM m c) (aW m c)) := by
  refine (dats m 0 c).arrAt_eq_of_covers 6 _ (by decide +kernel) fun t hf y => ?_
  blk_simp
  rw [after0_6, out6, pay3_at]
  have hy : ((cfg0.win 6).blk t).view.emb y = ix2 (rowOf t (y 0)) (y 1) := by
    blk_ext [idx t]
  refine Eq.trans ?_ (congrArg _ hy).symm
  refine Eq.trans ?_ (Cert.InprojRefIdeal.Value.xbArr_at _ _ _ (rowOf t (y 0)) (y 1)).symm
  have hl : (y 1).val < 1024 := (y 1).isLt
  have hd := dot_at m c t (y 0) (fun k => (View.ld (iblk m c 3 t) (Rect.unit ![0, 0] ![1024, 1024] inb_S1024x7296_S1024x1024_0_0)) (ix2 k (y 1))) (0 + (y 1).val) (by omega)
    (fun k => by rw [blk3_eq]; exact ld_at _ _ _ _ k (y 1) _)
  have hc : (⟨col (0 + (y 1).val), col_lt _ (by omega)⟩ : Fin 7176) = ⟨0 + (y 1).val, by omega⟩ := Fin.ext (by unfold col; dsimp only; split_ifs <;> omega)
  rw [hc] at hd
  exact hd

/-- The recurrent branch's gate: what a point leaves. -/
theorem out7 (c : Dev nD) (t : Fin cfg0.N) : (outsAt0 m c t.val t.isLt).2.1 = k0_pay4 (iblk m c 0 t) (iblk m c 2 t) (iblk m c 1 t) (View.ld (iblk m c 3 t) (Rect.unit ![0, 1024] ![1024, 1024] inb_S1024x7296_S1024x1024_0_1024)) := by
  by_cases h : t.val % 32 = 0
  · rw [outsAt0_A m c t h]; frame_out; rfl
  · rw [outsAt0_B m c t h]; frame_out; rfl

/-- The recurrent branch's gate: the array left is the reference's. -/
theorem fin7 (c : Dev nD) : (dats m 0 c).arrAt 7 cfg0.N = Cert.InprojRefIdeal.Value.gbArr (Cert.InprojRefIdeal.Value.projArr (aX m c) (aM m c) (aW m c)) := by
  refine (dats m 0 c).arrAt_eq_of_covers 7 _ (by decide +kernel) fun t hf y => ?_
  blk_simp
  rw [after0_7, out7, pay4_at]
  have hy : ((cfg0.win 7).blk t).view.emb y = ix2 (rowOf t (y 0)) (y 1) := by
    blk_ext [idx t]
  refine Eq.trans ?_ (congrArg _ hy).symm
  refine Eq.trans ?_ (Cert.InprojRefIdeal.Value.gbArr_at _ _ _ (rowOf t (y 0)) (y 1)).symm
  have hl : (y 1).val < 1024 := (y 1).isLt
  have hd := dot_at m c t (y 0) (fun k => (View.ld (iblk m c 3 t) (Rect.unit ![0, 1024] ![1024, 1024] inb_S1024x7296_S1024x1024_0_1024)) (ix2 k (y 1))) (1024 + (y 1).val) (by omega)
    (fun k => by rw [blk3_eq]; exact ld_at _ _ _ _ k (y 1) _)
  have hc : (⟨col (1024 + (y 1).val), col_lt _ (by omega)⟩ : Fin 7176) = ⟨1024 + (y 1).val, by omega⟩ := Fin.ext (by unfold col; dsimp only; split_ifs <;> omega)
  rw [hc] at hd
  exact hd

/-- The scaled queries: what a point leaves. -/
theorem out8 (c : Dev nD) (t : Fin cfg0.N) : (outsAt0 m c t.val t.isLt).2.2.1 = k0_pay5 (iblk m c 0 t) (iblk m c 2 t) (iblk m c 1 t) (View.ld (iblk m c 3 t) (Rect.unit ![0, 2048] ![1024, 1024] inb_S1024x7296_S1024x1024_0_2048)) := by
  by_cases h : t.val % 32 = 0
  · rw [outsAt0_A m c t h]; frame_out; rfl
  · rw [outsAt0_B m c t h]; frame_out; rfl

/-- The scaled queries: the array left is the reference's. -/
theorem fin8 (c : Dev nD) : (dats m 0 c).arrAt 8 cfg0.N = Cert.InprojRefIdeal.Value.qArr (Cert.InprojRefIdeal.Value.projArr (aX m c) (aM m c) (aW m c)) := by
  refine (dats m 0 c).arrAt_eq_of_covers 8 _ (by decide +kernel) fun t hf y => ?_
  blk_simp
  rw [after0_8, out8, pay5_at]
  have hy : ((cfg0.win 8).blk t).view.emb y = ix2 (rowOf t (y 0)) (y 1) := by
    blk_ext [idx t]
  refine Eq.trans ?_ (congrArg _ hy).symm
  refine Eq.trans ?_ (Cert.InprojRefIdeal.Value.qArr_at _ _ _ (rowOf t (y 0)) (y 1)).symm
  have hl : (y 1).val < 1024 := (y 1).isLt
  have hd := dot_at m c t (y 0) (fun k => (View.ld (iblk m c 3 t) (Rect.unit ![0, 2048] ![1024, 1024] inb_S1024x7296_S1024x1024_0_2048)) (ix2 k (y 1))) (2048 + (y 1).val) (by omega)
    (fun k => by rw [blk3_eq]; exact ld_at _ _ _ _ k (y 1) _)
  have hc : (⟨col (2048 + (y 1).val), col_lt _ (by omega)⟩ : Fin 7176) = ⟨2048 + (y 1).val, by omega⟩ := Fin.ext (by unfold col; dsimp only; split_ifs <;> omega)
  rw [hc] at hd
  exact congrArg (fun x : EReal => x * Ideal.ofBits FTy.f32 0x3DB504F3#32) hd

/-- The keys: what a point leaves. -/
theorem out9 (c : Dev nD) (t : Fin cfg0.N) : (outsAt0 m c t.val t.isLt).2.2.2.1 = k0_pay7 (uBlk m c t) (k0_pay6 (View.ld (iblk m c 3 t) (Rect.unit ![0, 3072] ![1024, 1024] inb_S1024x7296_S1024x1024_0_3072))) := by
  by_cases h : t.val % 32 = 0
  · rw [outsAt0_A m c t h]; frame_out; rfl
  · rw [outsAt0_B m c t h]; frame_out; rfl

/-- The keys: the array left is the reference's. -/
theorem fin9 (c : Dev nD) : (dats m 0 c).arrAt 9 cfg0.N = Cert.InprojRefIdeal.Value.kArr (Cert.InprojRefIdeal.Value.projArr (aX m c) (aM m c) (aW m c)) := by
  refine (dats m 0 c).arrAt_eq_of_covers 9 _ (by decide +kernel) fun t hf y => ?_
  blk_simp
  rw [after0_9, out9, pay7_at]
  have hy : ((cfg0.win 9).blk t).view.emb y = ix2 (rowOf t (y 0)) (y 1) := by
    blk_ext [idx t]
  refine Eq.trans ?_ (congrArg _ hy).symm
  refine Eq.trans ?_ (Cert.InprojRefIdeal.Value.kArr_at _ _ _ (rowOf t (y 0)) (y 1)).symm
  have hl : (y 1).val < 1024 := (y 1).isLt
  have hd := dot_at m c t (y 0) (fun k => (View.ld (iblk m c 3 t) (Rect.unit ![0, 3072] ![1024, 1024] inb_S1024x7296_S1024x1024_0_3072)) (ix2 k (y 1))) (3072 + (y 1).val) (by omega)
    (fun k => by rw [blk3_eq]; exact ld_at _ _ _ _ k (y 1) _)
  have hc : (⟨col (3072 + (y 1).val), col_lt _ (by omega)⟩ : Fin 7176) = ⟨3072 + (y 1).val, by omega⟩ := Fin.ext (by unfold col; dsimp only; split_ifs <;> omega)
  rw [hc] at hd
  exact hd

/-- The values: what a point leaves. -/
theorem out10 (c : Dev nD) (t : Fin cfg0.N) : (outsAt0 m c t.val t.isLt).2.2.2.2.1 = k0_pay9 (uBlk m c t) (View.ld (iblk m c 3 t) (Rect.unit ![0, 4096] ![1024, 1024] inb_S1024x7296_S1024x1024_0_4096)) := by
  by_cases h : t.val % 32 = 0
  · rw [outsAt0_A m c t h]; frame_out; rfl
  · rw [outsAt0_B m c t h]; frame_out; rfl

/-- The values: the array left is the reference's. -/
theorem fin10 (c : Dev nD) : (dats m 0 c).arrAt 10 cfg0.N = Cert.InprojRefIdeal.Value.vArr (Cert.InprojRefIdeal.Value.projArr (aX m c) (aM m c) (aW m c)) := by
  refine (dats m 0 c).arrAt_eq_of_covers 10 _ (by decide +kernel) fun t hf y => ?_
  blk_simp
  rw [after0_10, out10, pay9_at]
  have hy : ((cfg0.win 10).blk t).view.emb y = ix2 (rowOf t (y 0)) (y 1) := by
    blk_ext [idx t]
  refine Eq.trans ?_ (congrArg _ hy).symm
  refine Eq.trans ?_ (Cert.InprojRefIdeal.Value.vArr_at _ _ _ (rowOf t (y 0)) (y 1)).symm
  have hl : (y 1).val < 1024 := (y 1).isLt
  have hd := dot_at m c t (y 0) (fun k => (View.ld (iblk m c 3 t) (Rect.unit ![0, 4096] ![1024, 1024] inb_S1024x7296_S1024x1024_0_4096)) (ix2 k (y 1))) (4096 + (y 1).val) (by omega)
    (fun k => by rw [blk3_eq]; exact ld_at _ _ _ _ k (y 1) _)
  have hc : (⟨col (4096 + (y 1).val), col_lt _ (by omega)⟩ : Fin 7176) = ⟨4096 + (y 1).val, by omega⟩ := Fin.ext (by unfold col; dsimp only; split_ifs <;> omega)
  rw [hc] at hd
  exact hd

/-- The rounded keys: what a point leaves. -/
theorem out11 (c : Dev nD) (t : Fin cfg0.N) : (outsAt0 m c t.val t.isLt).2.2.2.2.2.1 = k0_pay8 (uBlk m c t) (k0_pay6 (View.ld (iblk m c 3 t) (Rect.unit ![0, 3072] ![1024, 1024] inb_S1024x7296_S1024x1024_0_3072))) := by
  by_cases h : t.val % 32 = 0
  · rw [outsAt0_A m c t h]; frame_out; rfl
  · rw [outsAt0_B m c t h]; frame_out; rfl

/-- The rounded keys: the array left is the reference's. -/
theorem fin11 (c : Dev nD) : (dats m 0 c).arrAt 11 cfg0.N = Cert.InprojRefIdeal.Value.kbArr (Cert.InprojRefIdeal.Value.projArr (aX m c) (aM m c) (aW m c)) := by
  refine (dats m 0 c).arrAt_eq_of_covers 11 _ (by decide +kernel) fun t hf y => ?_
  blk_simp
  rw [after0_11, out11, pay8_at]
  have hy : ((cfg0.win 11).blk t).view.emb y = ix2 (rowOf t (y 0)) (y 1) := by
    blk_ext [idx t]
  refine Eq.trans ?_ (congrArg _ hy).symm
  refine Eq.trans ?_ (Cert.InprojRefIdeal.Value.kbArr_at _ _ _ (rowOf t (y 0)) (y 1)).symm
  have hl : (y 1).val < 1024 := (y 1).isLt
  have hd := dot_at m c t (y 0) (fun k => (View.ld (iblk m c 3 t) (Rect.unit ![0, 3072] ![1024, 1024] inb_S1024x7296_S1024x1024_0_3072)) (ix2 k (y 1))) (3072 + (y 1).val) (by omega)
    (fun k => by rw [blk3_eq]; exact ld_at _ _ _ _ k (y 1) _)
  have hc : (⟨col (3072 + (y 1).val), col_lt _ (by omega)⟩ : Fin 7176) = ⟨3072 + (y 1).val, by omega⟩ := Fin.ext (by unfold col; dsimp only; split_ifs <;> omega)
  rw [hc] at hd
  exact hd

/-- The rounded values: what a point leaves. -/
theorem out12 (c : Dev nD) (t : Fin cfg0.N) : (outsAt0 m c t.val t.isLt).2.2.2.2.2.2.1 = k0_pay10 (uBlk m c t) (View.ld (iblk m c 3 t) (Rect.unit ![0, 4096] ![1024, 1024] inb_S1024x7296_S1024x1024_0_4096)) := by
  by_cases h : t.val % 32 = 0
  · rw [outsAt0_A m c t h]; frame_out; rfl
  · rw [outsAt0_B m c t h]; frame_out; rfl

/-- The rounded values: the array left is the reference's. -/
theorem fin12 (c : Dev nD) : (dats m 0 c).arrAt 12 cfg0.N = Cert.InprojRefIdeal.Value.vbArr (Cert.InprojRefIdeal.Value.projArr (aX m c) (aM m c) (aW m c)) := by
  refine (dats m 0 c).arrAt_eq_of_covers 12 _ (by decide +kernel) fun t hf y => ?_
  blk_simp
  rw [after0_12, out12, pay10_at]
  have hy : ((cfg0.win 12).blk t).view.emb y = ix2 (rowOf t (y 0)) (y 1) := by
    blk_ext [idx t]
  refine Eq.trans ?_ (congrArg _ hy).symm
  refine Eq.trans ?_ (Cert.InprojRefIdeal.Value.vbArr_at _ _ _ (rowOf t (y 0)) (y 1)).symm
  have hl : (y 1).val < 1024 := (y 1).isLt
  have hd := dot_at m c t (y 0) (fun k => (View.ld (iblk m c 3 t) (Rect.unit ![0, 4096] ![1024, 1024] inb_S1024x7296_S1024x1024_0_4096)) (ix2 k (y 1))) (4096 + (y 1).val) (by omega)
    (fun k => by rw [blk3_eq]; exact ld_at _ _ _ _ k (y 1) _)
  have hc : (⟨col (4096 + (y 1).val), col_lt _ (by omega)⟩ : Fin 7176) = ⟨4096 + (y 1).val, by omega⟩ := Fin.ext (by unfold col; dsimp only; split_ifs <;> omega)
  rw [hc] at hd
  exact hd

/-- The recurrent output's gate: what a point leaves. -/
theorem out13 (c : Dev nD) (t : Fin cfg0.N) : (outsAt0 m c t.val t.isLt).2.2.2.2.2.2.2.1 = k0_pay11 (uBlk m c t) (View.ld (iblk m c 3 t) (Rect.unit ![0, 5120] ![1024, 1024] inb_S1024x7296_S1024x1024_0_5120)) := by
  by_cases h : t.val % 32 = 0
  · rw [outsAt0_A m c t h]; frame_out; rfl
  · rw [outsAt0_B m c t h]; frame_out; rfl

/-- The recurrent output's gate: the array left is the reference's. -/
theorem fin13 (c : Dev nD) : (dats m 0 c).arrAt 13 cfg0.N = Cert.InprojRefIdeal.Value.glArr (Cert.InprojRefIdeal.Value.projArr (aX m c) (aM m c) (aW m c)) := by
  refine (dats m 0 c).arrAt_eq_of_covers 13 _ (by decide +kernel) fun t hf y => ?_
  blk_simp
  rw [after0_13, out13, pay11_at]
  have hy : ((cfg0.win 13).blk t).view.emb y = ix2 (rowOf t (y 0)) (y 1) := by
    blk_ext [idx t]
  refine Eq.trans ?_ (congrArg _ hy).symm
  refine Eq.trans ?_ (Cert.InprojRefIdeal.Value.glArr_at _ _ _ (rowOf t (y 0)) (y 1)).symm
  have hl : (y 1).val < 1024 := (y 1).isLt
  have hd := dot_at m c t (y 0) (fun k => (View.ld (iblk m c 3 t) (Rect.unit ![0, 5120] ![1024, 1024] inb_S1024x7296_S1024x1024_0_5120)) (ix2 k (y 1))) (5120 + (y 1).val) (by omega)
    (fun k => by rw [blk3_eq]; exact ld_at _ _ _ _ k (y 1) _)
  have hc : (⟨col (5120 + (y 1).val), col_lt _ (by omega)⟩ : Fin 7176) = ⟨5128 + (y 1).val, by omega⟩ := Fin.ext (by unfold col; dsimp only; split_ifs <;> omega)
  rw [hc] at hd
  exact hd

/-- The attention output's gate: what a point leaves. -/
theorem out14 (c : Dev nD) (t : Fin cfg0.N) : (outsAt0 m c t.val t.isLt).2.2.2.2.2.2.2.2.1 = k0_pay12 (uBlk m c t) (View.ld (iblk m c 3 t) (Rect.unit ![0, 6144] ![1024, 1024] inb_S1024x7296_S1024x1024_0_6144)) := by
  by_cases h : t.val % 32 = 0
  · rw [outsAt0_A m c t h]; frame_out; rfl
  · rw [outsAt0_B m c t h]; frame_out; rfl

/-- The attention output's gate: the array left is the reference's. -/
theorem fin14 (c : Dev nD) : (dats m 0 c).arrAt 14 cfg0.N = Cert.InprojRefIdeal.Value.gaArr (Cert.InprojRefIdeal.Value.projArr (aX m c) (aM m c) (aW m c)) := by
  refine (dats m 0 c).arrAt_eq_of_covers 14 _ (by decide +kernel) fun t hf y => ?_
  blk_simp
  rw [after0_14, out14, pay12_at]
  have hy : ((cfg0.win 14).blk t).view.emb y = ix2 (rowOf t (y 0)) (y 1) := by
    blk_ext [idx t]
  refine Eq.trans ?_ (congrArg _ hy).symm
  refine Eq.trans ?_ (Cert.InprojRefIdeal.Value.gaArr_at _ _ _ (rowOf t (y 0)) (y 1)).symm
  have hl : (y 1).val < 1024 := (y 1).isLt
  have hd := dot_at m c t (y 0) (fun k => (View.ld (iblk m c 3 t) (Rect.unit ![0, 6144] ![1024, 1024] inb_S1024x7296_S1024x1024_0_6144)) (ix2 k (y 1))) (6144 + (y 1).val) (by omega)
    (fun k => by rw [blk3_eq]; exact ld_at _ _ _ _ k (y 1) _)
  have hc : (⟨col (6144 + (y 1).val), col_lt _ (by omega)⟩ : Fin 7176) = ⟨6152 + (y 1).val, by omega⟩ := Fin.ext (by unfold col; dsimp only; split_ifs <;> omega)
  rw [hc] at hd
  exact hd

/-- One gate argument of a block. -/
theorem z_at (c : Dev nD) (t : Fin cfg0.N) (r : Fin 256) (h : Fin 8) :
    zBlk m c t (ix2 r ⟨h.val, by omega⟩) = projAt (aX m c) (aM m c) (aW m c) (rowOf t r) ⟨5120 + h.val, by omega⟩ + aB m c (ix2 0 h) := by
  refine (pay13_at _ _ _ _).trans ?_
  have hd := dot_at m c t r (fun k => (View.ld (iblk m c 3 t) (Rect.unit ![0, 7168] ![1024, 128] inb_S1024x7296_S1024x128_0_7168)) (ix2 k (⟨h.val, by omega⟩ : Fin 128))) (7168 + h.val) (by omega)
    (fun k => by rw [blk3_eq]; exact ld_at _ _ _ _ k ⟨h.val, by omega⟩ _)
  have hc : (⟨col (7168 + h.val), col_lt _ (by omega)⟩ : Fin 7176) = ⟨5120 + h.val, by omega⟩ := Fin.ext (by unfold col; dsimp only; split_ifs <;> omega)
  rw [hc] at hd
  refine congrArg₂ (fun x y : EReal => x + y) hd ?_
  rw [blk4_eq]
  exact biasArr_at _ h

/-- One log-forget gate of a block. -/
theorem l_at (c : Dev nD) (t : Fin cfg0.N) (r : Fin 256) (h : Fin 8) :
    lsig (zBlk m c t (ix2 r ⟨h.val, by omega⟩)) = logN (aX m c) (aM m c) (aW m c) (aB m c) h (t.val * 256 + r.val) := by
  have hn : t.val * 256 + r.val < 16384 := (rowOf t r).isLt
  unfold logN
  rw [dif_pos hn, z_at]
  rfl

/-- The log-forget gates: what a point leaves. -/
theorem out15 (c : Dev nD) (t : Fin cfg0.N) : (outsAt0 m c t.val t.isLt).2.2.2.2.2.2.2.2.2.1 = k0_pay16 (zBlk m c t) k0_pay14 := by
  by_cases h : t.val % 32 = 0
  · rw [outsAt0_A m c t h]; frame_out; rfl
  · rw [outsAt0_B m c t h]; frame_out; rfl

/-- The running sums a batch's first point leaves. -/
theorem out16_A (c : Dev nD) (t : Fin cfg0.N) (h : t.val % 32 = 0) : (outsAt0 m c t.val t.isLt).2.2.2.2.2.2.2.2.2.2.1 = k0_pay19 (zBlk m c t) k0_pay14 (iblk m c 5 t) (k0_pay17 : FVec Ideal S1x128 .f32) := by
  rw [outsAt0_A m c t h]; frame_out; rfl

/-- The running sums another point leaves. -/
theorem out16_B (c : Dev nD) (t : Fin cfg0.N) (h : ¬t.val % 32 = 0) : (outsAt0 m c t.val t.isLt).2.2.2.2.2.2.2.2.2.2.1 = k0_pay19 (zBlk m c t) k0_pay14 (iblk m c 5 t) (carry m c (t.val - 1) (Nat.lt_of_le_of_lt (Nat.sub_le _ _) t.isLt)) := by
  rw [outsAt0_B m c t h]; frame_out
  rw [(Memref.isWhole_whole cc0_scratch0).read_unread]
  rfl

/-- What a batch's first point carries on. -/
theorem carry_A (c : Dev nD) (t : Fin cfg0.N) (h : t.val % 32 = 0) : carry m c t.val t.isLt = k0_pay1 (k0_pay18 (zBlk m c t) k0_pay14 (iblk m c 5 t) (k0_pay17 : FVec Ideal S1x128 .f32)) := by
  unfold carry
  rw [outsAt0_A m c t h]; frame_out; rfl

/-- What another point carries on. -/
theorem carry_B (c : Dev nD) (t : Fin cfg0.N) (h : ¬t.val % 32 = 0) : carry m c t.val t.isLt = k0_pay1 (k0_pay18 (zBlk m c t) k0_pay14 (iblk m c 5 t) (carry m c (t.val - 1) (Nat.lt_of_le_of_lt (Nat.sub_le _ _) t.isLt))) := by
  unfold carry
  rw [outsAt0_B m c t h]; frame_out
  rw [(Memref.isWhole_whole cc0_scratch0).read_unread]
  rfl

/-- A tile's running sums over what came in: the reference's, when what came in is the sum of the batch's earlier tiles. -/
theorem cum_of (c : Dev nD) (t : Fin cfg0.N) (q : Vec Ideal S1x128 .f32) (h : Fin 8)
    (hq : q (ix2 0 ⟨h.val, by omega⟩) = ∑ s ∈ Finset.range (t.val % 32 * 256), logN (aX m c) (aM m c) (aW m c) (aB m c) h (t.val / 32 * 8192 + s)) (r : Fin 256) :
    k0_pay18 (zBlk m c t) k0_pay14 (iblk m c 5 t) q (ix2 r ⟨h.val, by omega⟩) = cumAt (logN (aX m c) (aM m c) (aW m c) (aB m c) h) (t.val * 256 + r.val) := by
  have ht : t.val < 64 := lt_of_lt_of_eq t.isLt N_0
  rw [blk5_eq, pay18_at, hq, ← cum_tile _ t.val r.val ht r.isLt]
  simp only [l_at]

/-- What is carried into a point of a batch past the first: the sum of the batch's earlier tiles. -/
theorem carry_at (c : Dev nD) (h : Fin 8) : ∀ (n : ℕ) (hn : n < cfg0.N),
    carry m c n hn (ix2 0 ⟨h.val, by omega⟩) = ∑ s ∈ Finset.range ((n % 32 + 1) * 256), logN (aX m c) (aM m c) (aW m c) (aB m c) h (n / 32 * 8192 + s) := by
  have key : ∀ a b d : ℕ, a % 8192 + 1 = b → a / 8192 = d → cumAt (logN (aX m c) (aM m c) (aW m c) (aB m c) h) a
      = ∑ s ∈ Finset.range b, logN (aX m c) (aM m c) (aW m c) (aB m c) h (d * 8192 + s) := by
    intro a b d h1 h2
    unfold cumAt
    rw [h1, h2]
  have h255 : ((255 : Fin 256) : ℕ) = 255 := rfl
  intro n
  induction n with
  | zero =>
    intro hn
    rw [carry_A m c ⟨0, hn⟩ rfl, pay1_at, cum_of m c ⟨0, hn⟩ (k0_pay17 : FVec Ideal S1x128 .f32) h (by rw [pay17_at]; simp) 255]
    refine key _ _ _ ?_ ?_ <;> rw [h255] <;> dsimp only <;> omega
  | succ n ih =>
    intro hn
    by_cases h0 : (n + 1) % 32 = 0
    · rw [carry_A m c ⟨n + 1, hn⟩ h0, pay1_at, cum_of m c ⟨n + 1, hn⟩ (k0_pay17 : FVec Ideal S1x128 .f32) h (by rw [pay17_at]; simp [h0]) 255]
      refine key _ _ _ ?_ ?_ <;> rw [h255] <;> dsimp only <;> omega
    · rw [carry_B m c ⟨n + 1, hn⟩ h0, pay1_at, cum_of m c ⟨n + 1, hn⟩ _ h ?_ 255]
      · refine key _ _ _ ?_ ?_ <;> rw [h255] <;> dsimp only <;> omega
      · have hi := ih (Nat.lt_of_succ_lt hn)
        have e1 : n % 32 + 1 = (n + 1) % 32 := by omega
        have e2 : n / 32 = (n + 1) / 32 := by omega
        rw [e1, e2] at hi
        exact hi

/-- The running sums: what a point leaves, one entry. -/
theorem out16_at (c : Dev nD) (t : Fin cfg0.N) (r : Fin 256) (h : Fin 8) :
    (outsAt0 m c t.val t.isLt).2.2.2.2.2.2.2.2.2.2.1 (ix2 r h) = cumAt (logN (aX m c) (aM m c) (aW m c) (aB m c) h) (t.val * 256 + r.val) := by
  by_cases h0 : t.val % 32 = 0
  · rw [out16_A m c t h0]
    refine Eq.trans ?_ (cum_of m c t (k0_pay17 : FVec Ideal S1x128 .f32) h (by rw [pay17_at, h0]; simp) r)
    rw [blk5_eq]
    exact pay19_at _ _ r h
  · rw [out16_B m c t h0]
    refine Eq.trans ?_ (cum_of m c t (carry m c (t.val - 1) (Nat.lt_of_le_of_lt (Nat.sub_le _ _) t.isLt)) h ?_ r)
    · rw [blk5_eq]
      exact pay19_at _ _ r h
    · rw [carry_at]
      have e1 : (t.val - 1) % 32 + 1 = t.val % 32 := by omega
      have e2 : (t.val - 1) / 32 = t.val / 32 := by omega
      rw [e1, e2]

/-- The log-forget gates: the array left is the reference's. -/
theorem fin15 (c : Dev nD) : (dats m 0 c).arrAt 15 cfg0.N = Cert.InprojRefIdeal.Value.lsArr (Cert.InprojRefIdeal.Value.zArr (Cert.InprojRefIdeal.Value.projArr (aX m c) (aM m c) (aW m c)) (aB m c)) := by
  refine (dats m 0 c).arrAt_eq_of_covers 15 _ (by decide +kernel) fun t hf y => ?_
  blk_simp
  rw [after0_15, out15]
  have hy : ((cfg0.win 15).blk t).view.emb y = ix2 (rowOf t (y 0)) (y 1) := by
    blk_ext [idx t]
  refine Eq.trans ?_ (congrArg _ hy).symm
  refine Eq.trans ?_ (Cert.InprojRefIdeal.Value.log_at _ _ _ _ (rowOf t (y 0)) (y 1)).symm
  have e : y = ix2 (y 0) (y 1) := by funext a; fin_cases a <;> rfl
  refine (congrArg _ e).trans ((pay16_at _ (y 0) (y 1)).trans ?_)
  unfold logAt
  exact congrArg lsig (z_at m c t (y 0) (y 1))

/-- The running sums: the array left is the reference's. -/
theorem fin16 (c : Dev nD) : (dats m 0 c).arrAt 16 cfg0.N = Cert.InprojRefIdeal.Value.cumArr (Cert.InprojRefIdeal.Value.lsArr (Cert.InprojRefIdeal.Value.zArr (Cert.InprojRefIdeal.Value.projArr (aX m c) (aM m c) (aW m c)) (aB m c))) := by
  refine (dats m 0 c).arrAt_eq_of_covers 16 _ (by decide +kernel) fun t hf y => ?_
  blk_simp
  rw [after0_16]
  have hy : ((cfg0.win 16).blk t).view.emb y = ix2 (rowOf t (y 0)) (y 1) := by
    blk_ext [idx t]
  refine Eq.trans ?_ (congrArg _ hy).symm
  refine Eq.trans ?_ (Cert.InprojRefIdeal.Value.cum_at _ _ _ _ (rowOf t (y 0)) (y 1)).symm
  have e : y = ix2 (y 0) (y 1) := by funext a; fin_cases a <;> rfl
  exact (congrArg _ e).trans (out16_at m c t (y 0) (y 1))

end Cert.InprojIdeal.Value
-- ==== Proof.MergeRef.lean ====
/-
  The reference merge of the two branches, read at one index.
-/
module

public import proofs.«01_k».proof.Proof.MoeSpec
public import proofs.«01_k».proof.Proof.Gen.MergeRefIdeal.Run

@[expose] public section

set_option maxRecDepth 16384

noncomputable section

open Idealize.ShloMosaic Idealize.ShloMosaic.TcCoe Idealize.SL.Sem

namespace Cert.MergeRefIdeal.Value

open Cert.MergeRefIdeal Cert.MergeRefIdeal.Gen Cert.MoeSpec

/-- The two gated branches added: gates `p`, `q` through the logistic function, times the branches' projections. -/
def yAt (p q s t : EReal) : EReal := Ideal.logistic p * s + Ideal.logistic q * t

/-- One entry before the normalisation: token `n`, lane `l`. -/
def zAt (X : FVec Ideal S16384x1024 .f32) (L T : FVec Ideal S16384x1024 .bf16) (PL PA : FVec Ideal S16384x1024 .f32) (WL WA : FVec Ideal S1x1024x1024 .f32) (WO : FVec Ideal S1x1024x1024 .f32) (M : FVec Ideal S2x1x6144 .f32) (n : Fin 16384) (l : Fin 1024) : EReal :=
  Ideal.ofBits FTy.f32 0x3F9837F0#32 * X (ix2 n l) + M (ix3 ⟨n.val / 8192, by omega⟩ 0 ⟨2048 + l.val, by omega⟩) * ∑ k : Fin 1024,
    yAt (PL (ix2 n k)) (PA (ix2 n k)) (∑ j : Fin 1024, L (ix2 n j) * WL (ix3 0 j k)) (∑ j : Fin 1024, T (ix2 n j) * WA (ix3 0 j k)) * WO (ix3 0 k l)

/-- The modulation for the experts. -/
def u2At (x a b : EReal) : EReal := x * (Ideal.ofBits FTy.f32 0x3F800000#32 + a) + b

/-- The two gated branches, added. -/
def mixArr (L T : FVec Ideal S16384x1024 .bf16) (PL PA : FVec Ideal S16384x1024 .f32) (WL WA : FVec Ideal S1x1024x1024 .f32) : FVec Ideal S16384x1024 .f32 :=
  (addf (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf PL)))) (Host.dotGeneral dot_S16384x1024_S1024x1024_S16384x1024_1_0_0_1_n_n none (extf .f32 L bitsLt_bf16_f32) (shapeCast _ WL shapeCasts_S1x1024x1024_S1024x1024))) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf PA)))) (Host.dotGeneral dot_S16384x1024_S1024x1024_S16384x1024_1_0_0_1_n_n none (extf .f32 T bitsLt_bf16_f32) (shapeCast _ WA shapeCasts_S1x1024x1024_S1024x1024))))

/-- The array before its normalisation. -/
def sumArr (X : FVec Ideal S16384x1024 .f32) (L T : FVec Ideal S16384x1024 .bf16) (PL PA : FVec Ideal S16384x1024 .f32) (WL WA : FVec Ideal S1x1024x1024 .f32) (WO : FVec Ideal S1x1024x1024 .f32) (M : FVec Ideal S2x1x6144 .f32) : FVec Ideal S2x8192x1024 .f32 :=
  (addf (mulf (broadcastInDim S2x8192x1024 ![] bcast_S_S2x8192x1024 (constant S_ .f32 0x3F9837F0#32)) (shapeCast _ X shapeCasts_S16384x1024_S2x8192x1024)) (mulf (broadcastInDim S2x8192x1024 ![0, 1, 2] bcast_S2x1x1024_S2x8192x1024_0_1_2 (extractStridedSlice S2x1x1024 ![0, 0, 2048] M slices_S2x1x6144_S2x1x1024_0_0_2048)) (shapeCast _ (Host.dotGeneral dot_S16384x1024_S1024x1024_S16384x1024_1_0_0_1_n_n none (mixArr L T PL PA WL WA) (shapeCast _ WO shapeCasts_S1x1024x1024_S1024x1024)) shapeCasts_S16384x1024_S2x8192x1024)))

/-- The layer normalisation of an array. -/
def ln3 (Z : FVec Ideal S2x8192x1024 .f32) (g b : FVec Ideal S1x1024 .f32) : FVec Ideal S2x8192x1024 .f32 :=
  (addf (mulf (mulf (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32))))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32))))) (subf Z (broadcastInDim S2x8192x1024 ![0, 1, 2] bcast_S2x8192x1_S2x8192x1024_0_1_2 (Host.divf (broadcastInDim S2x8192x1 ![0, 1] bcast_S2x8192_S2x8192x1_0_1 (Host.reduceAdd Z (constant S_ .f32 0x00000000#32) reducesTo_S2x8192x1024_S2x8192_d2 h_S_)) (broadcastInDim S2x8192x1 ![] bcast_S_S2x8192x1 (constant S_ .f32 0x44800000#32)))))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 (shapeCast _ g shapeCasts_S1x1024_S1024)))) (broadcastInDim S2x8192x1024 ![0, 1, 2] bcast_S1x1x1024_S2x8192x1024_0_1_2 (broadcastInDim S1x1x1024 ![2] bcast_S1024_S1x1x1024_2 (shapeCast _ b shapeCasts_S1x1024_S1024))))

/-- The normalised array, its rows in one line. -/
def x1Arr (Z : FVec Ideal S2x8192x1024 .f32) (g b : FVec Ideal S1x1024 .f32) : FVec Ideal S16384x1024 .f32 :=
  shapeCast _ (ln3 Z g b) shapeCasts_S2x8192x1024_S16384x1024

/-- The normalised array modulated for the experts, rounded. -/
def u2Arr (Z : FVec Ideal S2x8192x1024 .f32) (g b : FVec Ideal S1x1024 .f32) (M : FVec Ideal S2x1x6144 .f32) : FVec Ideal S16384x1024 .bf16 :=
  truncf .bf16 (shapeCast _ (addf (mulf (ln3 Z g b) (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] M slices_S2x1x6144_S2x1x1024_0_0_4096)))) (broadcastInDim S2x8192x1024 ![0, 1, 2] bcast_S2x1x1024_S2x8192x1024_0_1_2 (extractStridedSlice S2x1x1024 ![0, 0, 3072] M slices_S2x1x6144_S2x1x1024_0_0_3072))) shapeCasts_S2x8192x1024_S16384x1024) bitsLt_bf16_f32

/-- The reference's first result in these terms. -/
theorem res0_eq (m : (ℓ : Loc nD τ sig) → Buf (Elt Ideal) ℓ) (c : Dev nD) :
    res_out0 m c = x1Arr (sumArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg5))) (m ((c.tc : Thread nD τ).loc main_arg9)) (m ((c.tc : Thread nD τ).loc main_arg10)) := rfl

/-- The reference's second result in these terms. -/
theorem res1_eq (m : (ℓ : Loc nD τ sig) → Buf (Elt Ideal) ℓ) (c : Dev nD) :
    res_out1 m c = u2Arr (sumArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg5))) (m ((c.tc : Thread nD τ).loc main_arg9)) (m ((c.tc : Thread nD τ).loc main_arg10)) (m ((c.tc : Thread nD τ).loc main_arg5)) := rfl

/-- One entry of the gated branches' sum. -/
theorem mixArr_at (L T : FVec Ideal S16384x1024 .bf16) (PL PA : FVec Ideal S16384x1024 .f32) (WL WA : FVec Ideal S1x1024x1024 .f32) (n : Fin 16384) (l : Fin 1024) :
    mixArr L T PL PA WL WA (ix2 n l) = yAt (PL (ix2 n l)) (PA (ix2 n l)) (∑ j : Fin 1024, L (ix2 n j) * WL (ix3 0 j l)) (∑ j : Fin 1024, T (ix2 n j) * WA (ix3 0 j l)) := by
  pointwise [mixArr, yAt]
  rfl

/-- One entry of the array before its normalisation. -/
theorem sumArr_at (X : FVec Ideal S16384x1024 .f32) (L T : FVec Ideal S16384x1024 .bf16) (PL PA : FVec Ideal S16384x1024 .f32) (WL WA : FVec Ideal S1x1024x1024 .f32) (WO : FVec Ideal S1x1024x1024 .f32) (M : FVec Ideal S2x1x6144 .f32) (a : Fin 2) (s : Fin 8192) (l : Fin 1024) :
    sumArr X L T PL PA WL WA WO M (ix3 a s l) = zAt X L T PL PA WL WA WO M ⟨a.val * 8192 + s.val, by omega⟩ l := by
  unfold zAt
  have ha : (⟨(a.val * 8192 + s.val) / 8192, by omega⟩ : Fin 2) = a := Fin.ext (by dsimp only; omega)
  simp only [ha, ← mixArr_at]
  unfold sumArr
  generalize mixArr L T PL PA WL WA = Y
  pointwise []

/-- One entry of the normalisation. -/
theorem ln3_at (Z : FVec Ideal S2x8192x1024 .f32) (g b : FVec Ideal S1x1024 .f32) (a : Fin 2) (s : Fin 8192) (l : Fin 1024) :
    ln3 Z g b (ix3 a s l) = lnAt (fun k => Z (ix3 a s k)) (g (ix2 0 l)) (b (ix2 0 l)) l := by
  pointwise [ln3, lnAt]

/-- One entry of the reference's first result. -/
theorem x1Arr_at (X : FVec Ideal S16384x1024 .f32) (L T : FVec Ideal S16384x1024 .bf16) (PL PA : FVec Ideal S16384x1024 .f32) (WL WA : FVec Ideal S1x1024x1024 .f32) (WO : FVec Ideal S1x1024x1024 .f32) (M : FVec Ideal S2x1x6144 .f32) (g b : FVec Ideal S1x1024 .f32) (n : Fin 16384) (l : Fin 1024) :
    x1Arr (sumArr X L T PL PA WL WA WO M) g b (ix2 n l) = lnAt (fun k => zAt X L T PL PA WL WA WO M n k) (g (ix2 0 l)) (b (ix2 0 l)) l := by
  have hn : (⟨n.val / 8192 * 8192 + n.val % 8192, by omega⟩ : Fin 16384) = n := Fin.ext (by dsimp only; omega)
  have h := ln3_at (sumArr X L T PL PA WL WA WO M) g b ⟨n.val / 8192, by omega⟩ ⟨n.val % 8192, by omega⟩ l
  simp only [sumArr_at, hn] at h
  rw [← h]
  unfold x1Arr
  generalize ln3 (sumArr X L T PL PA WL WA WO M) g b = Y
  pointwise []

/-- One entry of the reference's second result. -/
theorem u2Arr_at (X : FVec Ideal S16384x1024 .f32) (L T : FVec Ideal S16384x1024 .bf16) (PL PA : FVec Ideal S16384x1024 .f32) (WL WA : FVec Ideal S1x1024x1024 .f32) (WO : FVec Ideal S1x1024x1024 .f32) (M : FVec Ideal S2x1x6144 .f32) (g b : FVec Ideal S1x1024 .f32) (n : Fin 16384) (l : Fin 1024) :
    u2Arr (sumArr X L T PL PA WL WA WO M) g b M (ix2 n l) = u2At (lnAt (fun k => zAt X L T PL PA WL WA WO M n k) (g (ix2 0 l)) (b (ix2 0 l)) l)
      (M (ix3 ⟨n.val / 8192, by omega⟩ 0 ⟨4096 + l.val, by omega⟩)) (M (ix3 ⟨n.val / 8192, by omega⟩ 0 ⟨3072 + l.val, by omega⟩)) := by
  have hn : (⟨n.val / 8192 * 8192 + n.val % 8192, by omega⟩ : Fin 16384) = n := Fin.ext (by dsimp only; omega)
  have h := ln3_at (sumArr X L T PL PA WL WA WO M) g b ⟨n.val / 8192, by omega⟩ ⟨n.val % 8192, by omega⟩ l
  simp only [sumArr_at, hn] at h
  rw [← h]
  unfold u2Arr
  generalize ln3 (sumArr X L T PL PA WL WA WO M) g b = Y
  pointwise [u2At]

end Cert.MergeRefIdeal.Value
-- ==== Proof.MergeValue.lean ====
/-
  The merge of the two branches: the two arrays it ends holding are the reference's, entry by entry.
-/
module

public import proofs.«01_k».proof.Proof.MergeRef
public import proofs.«01_k».proof.Proof.Gen.MergeIdeal.Value

@[expose] public section

set_option maxRecDepth 16384

noncomputable section

open Idealize.ShloMosaic Idealize.ShloMosaic.TcCoe Idealize.SL.Sem

open Idealize.ShloMosaic.Pipeline (Dat)

namespace Cert.MergeIdeal.Value

open Cert.MergeIdeal Cert.MergeIdeal.Gen Cert.MoeSpec Cert.MergeRefIdeal.Value

/-- One entry of the array the body normalises. -/
theorem pre_at (gl : Vec Ideal S256x1024 .f32) (l : Vec Ideal S256x1024 .bf16) (wl : Vec Ideal S1024x1024 .bf16)
    (ga : Vec Ideal S256x1024 .f32) (a : Vec Ideal S256x1024 .bf16) (wa wo : Vec Ideal S1024x1024 .bf16)
    (x : Vec Ideal S256x1024 .f32) (q : Vec Ideal S1x1x1024 .f32) (r : Fin 256) (n : Fin 1024) :
    k0_pay2 gl l wl ga a wa wo x q (ix2 r n) = Ideal.ofBits FTy.f32 0x3F9837F0#32 * x (ix2 r n) + q (ix3 0 0 n) * ∑ k : Fin 1024,
      yAt (gl (ix2 r k)) (ga (ix2 r k)) (∑ j : Fin 1024, l (ix2 r j) * wl (ix2 j k)) (∑ j : Fin 1024, a (ix2 r j) * wa (ix2 j k)) * wo (ix2 k n) := by
  pointwise [k0_pay2, yAt]

/-- What the body leaves as its first result: the normalised row. -/
theorem x1_at (z : FVec Ideal S256x1024 .f32) (g b : Vec Ideal S1x1024 .f32) (j : S256x1024.Idx) :
    k0_pay5 z (k0_pay3 g) (k0_pay4 b) j = lnAt (fun k => z (ix2 (j 0) k)) (g (ix2 0 (j 1))) (b (ix2 0 (j 1))) (j 1) := by
  pointwise [k0_pay5, k0_pay3, k0_pay4, lnAt]

/-- What the body leaves as its second result: the normalised row, modulated. -/
theorem u2_at (z : FVec Ideal S256x1024 .f32) (g b : Vec Ideal S1x1024 .f32) (p q : Vec Ideal S1x1x1024 .f32) (j : S256x1024.Idx) :
    k0_pay7 z (k0_pay3 g) (k0_pay4 b) p q j = u2At (lnAt (fun k => z (ix2 (j 0) k)) (g (ix2 0 (j 1))) (b (ix2 0 (j 1))) (j 1))
      (p (ix3 0 0 (j 1))) (q (ix3 0 0 (j 1))) := by
  rw [← x1_at z g b j]
  unfold k0_pay7 k0_pay6
  generalize k0_pay5 z (k0_pay3 g) (k0_pay4 b) = Y
  pointwise [u2At]

/-- A weight as the call reads it. -/
def weightArr (W : FVec Ideal S1x1024x1024 .f32) : FVec Ideal S1024x1024 .bf16 :=
  truncf .bf16 (shapeCast S1024x1024 W shapeCasts_S1x1024x1024_S1024x1024) bitsLt_bf16_f32

/-- One entry of such a weight. -/
theorem weightArr_at (W : FVec Ideal S1x1024x1024 .f32) (j k : Fin 1024) : weightArr W (ix2 j k) = W (ix3 0 j k) := by
  pointwise [weightArr]

/-- A gain or bias as the call reads it. -/
def rowArr (g : FVec Ideal S1x1024 .f32) : FVec Ideal S1x1024 .f32 :=
  shapeCast S1x1024 (shapeCast S1024 g shapeCasts_S1x1024_S1024) shapeCasts_S1024_S1x1024

/-- One entry of such a row. -/
theorem rowArr_at (g : FVec Ideal S1x1024 .f32) (k : Fin 1024) : rowArr g (ix2 0 k) = g (ix2 0 k) := by
  pointwise [rowArr]

/-- The blocks the grid points read and write. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val / 32, 0, 2] ∧ win0_6.index t = ![t.val / 32, 0, 3] ∧ win0_7.index t = ![t.val / 32, 0, 4] ∧ win0_8.index t = ![0, 0] ∧ win0_9.index t = ![0, 0] ∧ win0_10.index t = ![0, 0] ∧ win0_11.index t = ![0, 0] ∧ win0_12.index t = ![0, 0] ∧ win0_15.index t = ![t.val, 0] ∧ win0_16.index t = ![t.val, 0] :=
  (by decide +kernel : ∀ t : Fin grid0.N, _)

variable (m : (ℓ : Loc nD τ sig) → Buf (Elt Ideal) ℓ)

/-- The row of the arrays a block's row sits at. -/
abbrev rowOf (t : Fin cfg0.N) (r : Fin 256) : Fin 16384 :=
  ⟨t.val * 256 + r.val, by have := t.isLt; have hN : cfg0.N = 64 := N_0; omega⟩

/-- A row of the residual input's block. -/
theorem blk0_at (c : Dev nD) (t : Fin cfg0.N) (r : Fin 256) (k : Fin 1024) : iblk m c 0 t (ix2 r k) = (m ((c : Thread nD τ).loc main_arg0)) (ix2 (rowOf t r) k) := by
  blk_point [iblk, V, idx t]

/-- A row of the recurrent branch's block. -/
theorem blk1_at (c : Dev nD) (t : Fin cfg0.N) (r : Fin 256) (k : Fin 1024) : iblk m c 1 t (ix2 r k) = (m ((c : Thread nD τ).loc main_arg1)) (ix2 (rowOf t r) k) := by
  blk_point [iblk, V, idx t]

/-- A row of the attention branch's block. -/
theorem blk2_at (c : Dev nD) (t : Fin cfg0.N) (r : Fin 256) (k : Fin 1024) : iblk m c 2 t (ix2 r k) = (m ((c : Thread nD τ).loc main_arg2)) (ix2 (rowOf t r) k) := by
  blk_point [iblk, V, idx t]

/-- A row of the recurrent gate's block. -/
theorem blk3_at (c : Dev nD) (t : Fin cfg0.N) (r : Fin 256) (k : Fin 1024) : iblk m c 3 t (ix2 r k) = (m ((c : Thread nD τ).loc main_arg3)) (ix2 (rowOf t r) k) := by
  blk_point [iblk, V, idx t]

/-- A row of the attention gate's block. -/
theorem blk4_at (c : Dev nD) (t : Fin cfg0.N) (r : Fin 256) (k : Fin 1024) : iblk m c 4 t (ix2 r k) = (m ((c : Thread nD τ).loc main_arg4)) (ix2 (rowOf t r) k) := by
  blk_point [iblk, V, idx t]

/-- The residual gate's block. -/
theorem blk5_at (c : Dev nD) (t : Fin cfg0.N) (r : Fin 256) (k : Fin 1024) :
    iblk m c 5 t (ix3 0 0 k) = (m ((c : Thread nD τ).loc main_arg5)) (ix3 ⟨(rowOf t r).val / 8192, by omega⟩ 0 ⟨2048 + k.val, by omega⟩) := by
  blk_point [iblk, V, idx t]

/-- The shift's block. -/
theorem blk6_at (c : Dev nD) (t : Fin cfg0.N) (r : Fin 256) (k : Fin 1024) :
    iblk m c 6 t (ix3 0 0 k) = (m ((c : Thread nD τ).loc main_arg5)) (ix3 ⟨(rowOf t r).val / 8192, by omega⟩ 0 ⟨3072 + k.val, by omega⟩) := by
  blk_point [iblk, V, idx t]

/-- The scale's block. -/
theorem blk7_at (c : Dev nD) (t : Fin cfg0.N) (r : Fin 256) (k : Fin 1024) :
    iblk m c 7 t (ix3 0 0 k) = (m ((c : Thread nD τ).loc main_arg5)) (ix3 ⟨(rowOf t r).val / 8192, by omega⟩ 0 ⟨4096 + k.val, by omega⟩) := by
  blk_point [iblk, V, idx t]

/-- The recurrent branch's weight, as the launch reads it. -/
theorem V_v1 (c : Dev nD) : V m c main_v1 = weightArr (m ((c : Thread nD τ).loc main_arg6)) := rfl

/-- The recurrent branch's weight, whole in every block. -/
theorem blk8_eq (c : Dev nD) (t : Fin cfg0.N) : (iblk m c 8 t : Vec Ideal S1024x1024 .bf16) = weightArr (m ((c : Thread nD τ).loc main_arg6)) := by
  rw [← V_v1]
  funext y
  blk_ext [iblk, idx t]

/-- The recurrent branch's weight. -/
theorem blk8_at (c : Dev nD) (t : Fin cfg0.N) (j k : Fin 1024) : iblk m c 8 t (ix2 j k) = (m ((c : Thread nD τ).loc main_arg6)) (ix3 0 j k) := by
  rw [blk8_eq]
  exact weightArr_at _ _ _

/-- The attention branch's weight, as the launch reads it. -/
theorem V_v3 (c : Dev nD) : V m c main_v3 = weightArr (m ((c : Thread nD τ).loc main_arg7)) := rfl

/-- The attention branch's weight, whole in every block. -/
theorem blk9_eq (c : Dev nD) (t : Fin cfg0.N) : (iblk m c 9 t : Vec Ideal S1024x1024 .bf16) = weightArr (m ((c : Thread nD τ).loc main_arg7)) := by
  rw [← V_v3]
  funext y
  blk_ext [iblk, idx t]

/-- The attention branch's weight. -/
theorem blk9_at (c : Dev nD) (t : Fin cfg0.N) (j k : Fin 1024) : iblk m c 9 t (ix2 j k) = (m ((c : Thread nD τ).loc main_arg7)) (ix3 0 j k) := by
  rw [blk9_eq]
  exact weightArr_at _ _ _

/-- The output weight, as the launch reads it. -/
theorem V_v5 (c : Dev nD) : V m c main_v5 = weightArr (m ((c : Thread nD τ).loc main_arg8)) := rfl

/-- The output weight, whole in every block. -/
theorem blk10_eq (c : Dev nD) (t : Fin cfg0.N) : (iblk m c 10 t : Vec Ideal S1024x1024 .bf16) = weightArr (m ((c : Thread nD τ).loc main_arg8)) := by
  rw [← V_v5]
  funext y
  blk_ext [iblk, idx t]

/-- The output weight. -/
theorem blk10_at (c : Dev nD) (t : Fin cfg0.N) (j k : Fin 1024) : iblk m c 10 t (ix2 j k) = (m ((c : Thread nD τ).loc main_arg8)) (ix3 0 j k) := by
  rw [blk10_eq]
  exact weightArr_at _ _ _

/-- The normalisation's gain, as the launch reads it. -/
theorem V_v7 (c : Dev nD) : V m c main_v7 = rowArr (m ((c : Thread nD τ).loc main_arg9)) := rfl

/-- The normalisation's gain, whole in every block. -/
theorem blk11_eq (c : Dev nD) (t : Fin cfg0.N) : (iblk m c 11 t : Vec Ideal S1x1024 .f32) = rowArr (m ((c : Thread nD τ).loc main_arg9)) := by
  rw [← V_v7]
  funext y
  blk_ext [iblk, idx t]

/-- The normalisation's gain. -/
theorem blk11_at (c : Dev nD) (t : Fin cfg0.N) (k : Fin 1024) : iblk m c 11 t (ix2 0 k) = (m ((c : Thread nD τ).loc main_arg9)) (ix2 0 k) := by
  rw [blk11_eq]
  exact rowArr_at _ _

/-- The normalisation's bias, as the launch reads it. -/
theorem V_v9 (c : Dev nD) : V m c main_v9 = rowArr (m ((c : Thread nD τ).loc main_arg10)) := rfl

/-- The normalisation's bias, whole in every block. -/
theorem blk12_eq (c : Dev nD) (t : Fin cfg0.N) : (iblk m c 12 t : Vec Ideal S1x1024 .f32) = rowArr (m ((c : Thread nD τ).loc main_arg10)) := by
  rw [← V_v9]
  funext y
  blk_ext [iblk, idx t]

/-- The normalisation's bias. -/
theorem blk12_at (c : Dev nD) (t : Fin cfg0.N) (k : Fin 1024) : iblk m c 12 t (ix2 0 k) = (m ((c : Thread nD τ).loc main_arg10)) (ix2 0 k) := by
  rw [blk12_eq]
  exact rowArr_at _ _

/-- The array the body of a grid point normalises. -/
abbrev zBlk (c : Dev nD) (t : Fin cfg0.N) : FVec Ideal S256x1024 .f32 :=
  k0_pay2 (iblk m c 3 t) (iblk m c 1 t) (iblk m c 8 t) (iblk m c 4 t) (iblk m c 2 t) (iblk m c 9 t) (iblk m c 10 t) (iblk m c 0 t) (iblk m c 5 t)

/-- The array the body normalises is the reference's, row by row. -/
theorem zBlk_at (c : Dev nD) (t : Fin cfg0.N) (r : Fin 256) (k : Fin 1024) :
    zBlk m c t (ix2 r k) = zAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg5)) (rowOf t r) k := by
  unfold zBlk zAt
  rw [pre_at, blk0_at, blk5_at m c t r]
  simp only [blk1_at, blk2_at, blk3_at, blk4_at, blk8_at, blk9_at, blk10_at]

/-- The first result: what a point leaves. -/
theorem out15 (c : Dev nD) (t : Fin cfg0.N) : (dats m 0 c).after 15 t = k0_pay5 (zBlk m c t) (k0_pay3 (iblk m c 11 t)) (k0_pay4 (iblk m c 12 t)) := by
  rw [after0_15]
  unfold_out out0_15
  frame_out

/-- The second result: what a point leaves. -/
theorem out16 (c : Dev nD) (t : Fin cfg0.N) : (dats m 0 c).after 16 t = k0_pay7 (zBlk m c t) (k0_pay3 (iblk m c 11 t)) (k0_pay4 (iblk m c 12 t)) (iblk m c 7 t) (iblk m c 6 t) := by
  rw [after0_16]
  unfold_out out0_16
  frame_out

/-- The first result: the array left is the reference's. -/
theorem fin15 (c : Dev nD) : (dats m 0 c).arrAt 15 cfg0.N = x1Arr (sumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg5))) (m ((c : Thread nD τ).loc main_arg9)) (m ((c : Thread nD τ).loc main_arg10)) := by
  refine (dats m 0 c).arrAt_eq_of_covers 15 _ (by decide +kernel) fun t hf y => ?_
  blk_simp
  rw [out15, x1_at]
  have hy : ((cfg0.win 15).blk t).view.emb y = ix2 (rowOf t (y 0)) (y 1) := by
    blk_ext [idx t]
  refine Eq.trans ?_ (congrArg _ hy).symm
  refine Eq.trans ?_ (x1Arr_at _ _ _ _ _ _ _ _ _ _ _ (rowOf t (y 0)) (y 1)).symm
  rw [blk11_at m c t (y 1), blk12_at m c t (y 1), funext (fun k => zBlk_at m c t (y 0) k)]

/-- The second result: the array left is the reference's. -/
theorem fin16 (c : Dev nD) : (dats m 0 c).arrAt 16 cfg0.N = u2Arr (sumArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg5))) (m ((c : Thread nD τ).loc main_arg9)) (m ((c : Thread nD τ).loc main_arg10)) (m ((c : Thread nD τ).loc main_arg5)) := by
  refine (dats m 0 c).arrAt_eq_of_covers 16 _ (by decide +kernel) fun t hf y => ?_
  blk_simp
  rw [out16, u2_at]
  have hy : ((cfg0.win 16).blk t).view.emb y = ix2 (rowOf t (y 0)) (y 1) := by
    blk_ext [idx t]
  refine Eq.trans ?_ (congrArg _ hy).symm
  refine Eq.trans ?_ (u2Arr_at _ _ _ _ _ _ _ _ _ _ _ (rowOf t (y 0)) (y 1)).symm
  rw [blk11_at m c t (y 1), blk12_at m c t (y 1), blk7_at m c t (y 0) (y 1), blk6_at m c t (y 0) (y 1), funext (fun k => zBlk_at m c t (y 0) k)]

end Cert.MergeIdeal.Value
-- ==== Proof.lean ====
/-
  The claims of `Cert.Claim`, put together: each kernel's value against its reference, frames by the generated runs.
-/
module

public import proofs.«01_k».proof.Defs
public import proofs.«01_k».proof.Proof.Gen.Moe.Frame
public import proofs.«01_k».proof.Proof.MoeValue
public import proofs.«01_k».proof.Proof.Gen.MoeIdeal.Value
public import proofs.«01_k».proof.Proof.Gen.MoeRefIdeal.Run
public import proofs.«01_k».proof.Proof.AttnFrame
public import proofs.«01_k».proof.Proof.AttnIdealValue
public import proofs.«01_k».proof.Proof.AttnPre
public import proofs.«01_k».proof.Proof.Gen.AttnRefIdeal.Run
public import proofs.«01_k».proof.Proof.Gen.Inproj.Frame
public import proofs.«01_k».proof.Proof.InprojValue
public import proofs.«01_k».proof.Proof.InprojRef
public import proofs.«01_k».proof.Proof.Gen.InprojIdeal.Value
public import proofs.«01_k».proof.Proof.Gen.InprojRefIdeal.Run
public import proofs.«01_k».proof.Proof.Gen.Merge.Frame
public import proofs.«01_k».proof.Proof.MergeValue
public import proofs.«01_k».proof.Proof.MergeRef
public import proofs.«01_k».proof.Proof.Gen.MergeIdeal.Value
public import proofs.«01_k».proof.Proof.Gen.MergeRefIdeal.Run
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference mixture runs and ends quiescent, its arguments unchanged. -/
theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The mixture call's result is the reference's. -/
theorem algebraic_MoeIdeal_MoeRefIdeal : algebraic_MoeIdeal_MoeRefIdeal := by
  intro m ρ m' ρ' _ hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1]
  rw [← Cert.MoeIdeal.Value.final9 m c, Cert.MoeIdeal.Value.final m c]
  refine (Cert.MoeRefIdeal.Value.res_eq m' c).trans ?_
  obtain ⟨h0, h1, h2, h3, h4, h5, h6, h7, h8⟩ := hagree c
  rw [h0, h1, h2, h3, h4, h5, h6, h7, h8]

/-- The reference attention runs and ends quiescent, its arguments unchanged. -/
theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The attention call's result is the reference's, of finite queries, keys and gates. -/
theorem algebraic_Attn [Cert.Pre_finite_logits.Facts] : algebraic_AttnIdeal_AttnRefIdeal_pre_finite_logits := by
  intro m ρ m' ρ' hpre hagree
  refine ⟨fun c => (Cert.AttnIdeal.Fox.dats m 0 c).arrAt (5 : Fin 6) Cert.AttnIdeal.Fox.cfgA.N, ?_, ?_⟩
  · exact (θ_run (Cert.AttnIdeal.defs (F := Ideal)) _ _).mono (fun _ h c => ⟨(h.1 c).1 (5 : Fin 6),
      ((h.1 c).2 Cert.AttnIdeal.main_arg0 (by decide)).trans (Cert.AttnIdeal.Fox.V_arg0 m c),
      ((h.1 c).2 Cert.AttnIdeal.main_arg1 (by decide)).trans (Cert.AttnIdeal.Fox.V_arg1 m c),
      ((h.1 c).2 Cert.AttnIdeal.main_arg2 (by decide)).trans (Cert.AttnIdeal.Fox.V_arg2 m c),
      ((h.1 c).2 Cert.AttnIdeal.main_arg3 (by decide)).trans (Cert.AttnIdeal.Fox.V_arg3 m c)⟩) (Cert.AttnIdeal.Fox.run_quiescent m ρ)
  · refine (θ_run Cert.AttnRefIdeal.defs _ _).mono (fun _ h c => ⟨?_, (h c).2⟩) (Cert.AttnRefIdeal.Value.run (F := Ideal) m' ρ')
    have hF : Cert.AttnIdeal.Fox.Fin3 m c := Cert.Pre_finite_logits.decode _ _ _ _ (hpre c)
    refine (h c).1.trans ((Cert.AttnRefIdeal.Value.res_eq m' c).trans ?_)
    obtain ⟨h0, h1, h2, h3⟩ := hagree c
    rw [h0, h1, h2, h3]
    exact (Cert.AttnIdeal.Fox.final m c hF).symm

/-- The reference in-projection runs and ends quiescent, its arguments unchanged. -/
theorem quiescent_InprojRefIdeal : quiescent_InprojRefIdeal := fun m ρ _ =>
  (θ_run Cert.InprojRefIdeal.defs _ _).mono (fun r h => ⟨fun c => (h c).2.2.2.2.2.2.2.2.2.2.2, sem_eq_zero_of_no_sems (by decide) r.2⟩)
    (Cert.InprojRefIdeal.Value.run (F := Ideal) m ρ)

/-- The in-projection call's eleven results are the reference's. -/
theorem algebraic_Inproj : algebraic_InprojIdeal_InprojRefIdeal := by
  intro m ρ m' ρ' _ hagree
  refine ⟨_, _, _, _, _, _, _, _, _, _, _, Cert.InprojIdeal.Value.run_blocks (F := Ideal) m ρ, ?_⟩
  refine (θ_run Cert.InprojRefIdeal.defs _ _).mono (fun _ h c => ?_) (Cert.InprojRefIdeal.Value.run (F := Ideal) m' ρ')
  have hr := h c
  obtain ⟨h0, h1, h2, h3⟩ := hagree c
  have hP : Cert.InprojRefIdeal.Value.projArr (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InprojRefIdeal.Value.projArr (Cert.InprojIdeal.Value.aX m c) (Cert.InprojIdeal.Value.aM m c) (Cert.InprojIdeal.Value.aW m c) := by
    rw [h0, h1, h2]
  have hZ : Cert.InprojRefIdeal.Value.zArr (Cert.InprojRefIdeal.Value.projArr (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2))) (m' ((c.tc : Thread Cert.InprojRefIdeal.nD Cert.InprojRefIdeal.τ).loc Cert.InprojRefIdeal.main_arg3)) = Cert.InprojRefIdeal.Value.zArr (Cert.InprojRefIdeal.Value.projArr (Cert.InprojIdeal.Value.aX m c) (Cert.InprojIdeal.Value.aM m c) (Cert.InprojIdeal.Value.aW m c)) (Cert.InprojIdeal.Value.aB m c) := by
    rw [hP, h3]
  exact ⟨hr.1.trans ((congrArg Cert.InprojRefIdeal.Value.xbArr hP).trans (Cert.InprojIdeal.Value.fin6 m c).symm),
    hr.2.1.trans ((congrArg Cert.InprojRefIdeal.Value.gbArr hP).trans (Cert.InprojIdeal.Value.fin7 m c).symm),
    hr.2.2.1.trans ((congrArg Cert.InprojRefIdeal.Value.qArr hP).trans (Cert.InprojIdeal.Value.fin8 m c).symm),
    hr.2.2.2.1.trans ((congrArg Cert.InprojRefIdeal.Value.kArr hP).trans (Cert.InprojIdeal.Value.fin9 m c).symm),
    hr.2.2.2.2.1.trans ((congrArg Cert.InprojRefIdeal.Value.vArr hP).trans (Cert.InprojIdeal.Value.fin10 m c).symm),
    hr.2.2.2.2.2.1.trans ((congrArg Cert.InprojRefIdeal.Value.kbArr hP).trans (Cert.InprojIdeal.Value.fin11 m c).symm),
    hr.2.2.2.2.2.2.1.trans ((congrArg Cert.InprojRefIdeal.Value.vbArr hP).trans (Cert.InprojIdeal.Value.fin12 m c).symm),
    hr.2.2.2.2.2.2.2.1.trans ((congrArg Cert.InprojRefIdeal.Value.glArr hP).trans (Cert.InprojIdeal.Value.fin13 m c).symm),
    hr.2.2.2.2.2.2.2.2.1.trans ((congrArg Cert.InprojRefIdeal.Value.gaArr hP).trans (Cert.InprojIdeal.Value.fin14 m c).symm),
    hr.2.2.2.2.2.2.2.2.2.1.trans ((Cert.InprojRefIdeal.Value.res9_eq m' c).trans ((congrArg Cert.InprojRefIdeal.Value.lsArr hZ).trans (Cert.InprojIdeal.Value.fin15 m c).symm)),
    hr.2.2.2.2.2.2.2.2.2.2.1.trans ((Cert.InprojRefIdeal.Value.res10_eq m' c).trans ((congrArg (fun z => Cert.InprojRefIdeal.Value.cumArr (Cert.InprojRefIdeal.Value.lsArr z)) hZ).trans (Cert.InprojIdeal.Value.fin16 m c).symm)),
    hr.2.2.2.2.2.2.2.2.2.2.2⟩

/-- The reference merge runs and ends quiescent, its arguments unchanged. -/
theorem quiescent_MergeRefIdeal : quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- The merge call's normalised array and its modulation are the reference's. -/
theorem algebraic_Merge : algebraic_MergeIdeal_MergeRefIdeal := by
  intro m ρ m' ρ' _ hagree
  refine ⟨_, _, (θ_run (Cert.MergeIdeal.defs (F := Ideal)) _ _).mono (fun _ h c => ⟨(h c).1, (h c).2.1, (h c).2.2.2⟩)
    (Cert.MergeIdeal.Value.run_blocks (F := Ideal) m ρ), ?_⟩
  refine (θ_run Cert.MergeRefIdeal.defs _ _).mono (fun _ h c => ⟨(h c).1.trans ?_, (h c).2.1.trans ?_, (h c).2.2⟩)
    (Cert.MergeRefIdeal.Value.run (F := Ideal) m' ρ')
  · refine (Cert.MergeRefIdeal.Value.res0_eq m' c).trans ?_
    obtain ⟨h0, h1, h2, h3, h4, h5, h6, h7, h8, h9, h10, _⟩ := hagree c
    rw [h0, h1, h2, h3, h4, h5, h6, h7, h8, h9, h10]
    exact (Cert.MergeIdeal.Value.fin15 m c).symm
  · refine (Cert.MergeRefIdeal.Value.res1_eq m' c).trans ?_
    obtain ⟨h0, h1, h2, h3, h4, h5, h6, h7, h8, h9, h10, _⟩ := hagree c
    rw [h0, h1, h2, h3, h4, h5, h6, h7, h8, h9, h10]
    exact (Cert.MergeIdeal.Value.fin16 m c).symm

/-- Everything claimed. -/
theorem claim : Cert.Claim :=
  haveI := Cert.Pre_finite_logits.facts
  ⟨Cert.Moe.Gen.facts, Cert.MoeIdeal.Gen.facts, Cert.MoeRefIdeal.Gen.facts, Cert.Attn.Gen.facts, Cert.AttnIdeal.Gen.facts, Cert.AttnRefIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Pre_finite_logits.facts,
    fun m ρ _ => Cert.Moe.Gen.frame m ρ, fun m ρ _ => Cert.MoeIdeal.Gen.frame m ρ, quiescent_MoeRefIdeal,
    fun m ρ _ => Cert.Attn.Fox.frame_run m ρ, fun m ρ _ => Cert.AttnIdeal.Fox.frame_run m ρ, fun m ρ _ => Cert.AttnIdeal.Fox.frame_run m ρ,
    quiescent_AttnRefIdeal, fun m ρ _ => quiescent_AttnRefIdeal m ρ trivial,
    fun m ρ _ => Cert.Inproj.Gen.frame m ρ, fun m ρ _ => Cert.InprojIdeal.Gen.frame m ρ, quiescent_InprojRefIdeal,
    fun m ρ _ => Cert.Merge.Gen.frame m ρ, fun m ρ _ => Cert.MergeIdeal.Gen.frame m ρ, quiescent_MergeRefIdeal,
    (trivial : preserves_Moe_MoeIdeal), algebraic_MoeIdeal_MoeRefIdeal, (trivial : preserves_Attn_AttnIdeal), algebraic_Attn,
    (trivial : preserves_Inproj_InprojIdeal), algebraic_Inproj,
    (trivial : preserves_Merge_MergeIdeal), algebraic_Merge⟩

end Cert.Proof

end
